-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S256x4096 : Shape := ⟨2, ![256, 4096]⟩
abbrev S26 : Shape := ⟨1, ![26]⟩
abbrev S_ : Shape := ⟨0, ![]⟩
abbrev S128x4096 : Shape := ⟨2, ![128, 4096]⟩
abbrev S512x1024 : Shape := ⟨2, ![512, 1024]⟩
abbrev S256x1024 : Shape := ⟨2, ![256, 1024]⟩

abbrev nBuf : Space → Nat
  | .hbm => 5
  | .vmem => 13
  | .smem => 2
  | _ => 0

abbrev bufTy : (tb : Table) → Fin (tcTables nBuf tb) → BufTy
  | .hbm, ⟨0, _⟩ => ⟨S512x4096, .fp8e4m3⟩
  | .hbm, ⟨1, _⟩ => ⟨S4096x1024, .fp8e4m3⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .fp8e4m3⟩
  | .local _ .vmem, ⟨1, _⟩ => ⟨S4096x1024, .fp8e4m3⟩
  | .local _ .vmem, ⟨2, _⟩ => ⟨S4096x1024, .f32⟩
  | .local _ .vmem, ⟨3, _⟩ => ⟨S512x4096, .fp8e4m3⟩
  | .local _ .vmem, ⟨4, _⟩ => ⟨S512x4096, .fp8e4m3⟩
  | .local _ .vmem, ⟨5, _⟩ => ⟨S512x4096, .fp8e4m3⟩
  | .local _ .vmem, ⟨6, _⟩ => ⟨S512x4096, .fp8e4m3⟩
  | .local _ .vmem, ⟨7, _⟩ => ⟨S512x4096, .fp8e4m3⟩
  | .local _ .vmem, ⟨8, _⟩ => ⟨S512x4096, .fp8e4m3⟩
  | .local _ .vmem, ⟨9, _⟩ => ⟨S512x4096, .fp8e4m3⟩
  | .local _ .vmem, ⟨10, _⟩ => ⟨S256x4096, .fp8e4m3⟩
  | .local _ .vmem, ⟨11, _⟩ => ⟨S256x4096, .fp8e4m3⟩
  | .local _ .vmem, ⟨12, _⟩ => ⟨S4096x1024, .fp8e4m3⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_45 : BitVec 32 := 1#32
  let v102 : BitVec 32 := Scalar.muli v70 c1_i32_45
  let v103 : BitVec 32 := Scalar.addi c0_i32_46 v102
  v103.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_48 : BitVec 32 := 1#32
  let v104 : BitVec 32 := Scalar.muli v46 c1_i32_48
  let v105 : BitVec 32 := Scalar.addi c0_i32_49 v104
  v105.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_51 : BitVec 32 := 1#32
  let v106 : BitVec 32 := Scalar.muli v98 c1_i32_51
  let v107 : BitVec 32 := Scalar.addi c0_i32_52 v106
  v107.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_59 : BitVec 32 := 1#32
  let v113 : BitVec 32 := Scalar.muli v46 c1_i32_59
  let v114 : BitVec 32 := Scalar.addi c0_i32_60 v113
  v114.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_67 : BitVec 32 := 1#32
  let v121 : BitVec 32 := Scalar.muli v70 c1_i32_67
  let v122 : BitVec 32 := Scalar.addi c0_i32_68 v121
  v122.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_75 : BitVec 32 := 1#32
  let v129 : BitVec 32 := Scalar.muli v98 c1_i32_75
  let v130 : BitVec 32 := Scalar.addi c0_i32_76 v129
  v130.toNat
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_86 : BitVec 32 := 1#32
  let v142 : BitVec 32 := Scalar.muli v46 c1_i32_86
  let v143 : BitVec 32 := Scalar.addi c0_i32_87 v142
  v143.toNat
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_92 : BitVec 32 := 1#32
  let v150 : BitVec 32 := Scalar.muli v70 c1_i32_92
  let v151 : BitVec 32 := Scalar.addi c0_i32_93 v150
  v151.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_99 : BitVec 32 := 1#32
  let v158 : BitVec 32 := Scalar.muli v98 c1_i32_99
  let v159 : BitVec 32 := Scalar.addi c0_i32_100 v158
  v159.toNat
def k0_dev10 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_110 : BitVec 32 := 1#32
  let v171 : BitVec 32 := Scalar.muli v46 c1_i32_110
  let v172 : BitVec 32 := Scalar.addi c0_i32_111 v171
  v172.toNat
def k0_dev11 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_116 : BitVec 32 := 1#32
  let v179 : BitVec 32 := Scalar.muli v70 c1_i32_116
  let v180 : BitVec 32 := Scalar.addi c0_i32_117 v179
  v180.toNat
def k0_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_123 : BitVec 32 := 1#32
  let v187 : BitVec 32 := Scalar.muli v98 c1_i32_123
  let v188 : BitVec 32 := Scalar.addi c0_i32_124 v187
  v188.toNat
def k0_dev13 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_134 : BitVec 32 := 1#32
  let v200 : BitVec 32 := Scalar.muli v46 c1_i32_134
  let v201 : BitVec 32 := Scalar.addi c0_i32_135 v200
  v201.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_140 : BitVec 32 := 1#32
  let v208 : BitVec 32 := Scalar.muli v70 c1_i32_140
  let v209 : BitVec 32 := Scalar.addi c0_i32_141 v208
  v209.toNat
def k0_dev15 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_148 : BitVec 32 := 1#32
  let v216 : BitVec 32 := Scalar.muli v98 c1_i32_148
  let v217 : BitVec 32 := Scalar.addi c0_i32_149 v216
  v217.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v239 : BitVec 32 := Scalar.muli v2 c512_i32
  let c0_i32_165 : BitVec 32 := 0#32
  let v240 : BitVec 32 := Scalar.addi v239 c0_i32_165
  let v241 : Index := Scalar.indexCast v240
  let c0_166 : Index := 0#32
  ![v241.toNat, 0]
def k0_dev16 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_176 : BitVec 32 := 1#32
  let v249 : BitVec 32 := Scalar.muli v46 c1_i32_176
  let v250 : BitVec 32 := Scalar.addi c0_i32_177 v249
  v250.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c0_i32_42 : BitVec 32 := 0#32
  let v99 : BitVec 1 := Scalar.cmpi .eq v71 c0_i32_42
  let v257 : BitVec 32 := Scalar.extui v99
  let c0_i32_183 : BitVec 32 := 0#32
  let v258 : BitVec 1 := Scalar.cmpi .ne v257 c0_i32_183
  v258

def k0_dev17 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_dev18 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_193 : BitVec 32 := 1#32
  let v265 : BitVec 32 := Scalar.muli v70 c1_i32_193
  let v266 : BitVec 32 := Scalar.addi c0_i32_194 v265
  v266.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c1_i32_43 : BitVec 32 := 1#32
  let v100 : BitVec 1 := Scalar.cmpi .eq v71 c1_i32_43
  let v273 : BitVec 32 := Scalar.extui v100
  let c0_i32_201 : BitVec 32 := 0#32
  let v274 : BitVec 1 := Scalar.cmpi .ne v273 c0_i32_201
  v274

def k0_dev19 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_dev20 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_211 : BitVec 32 := 1#32
  let v281 : BitVec 32 := Scalar.muli v46 c1_i32_211
  let v282 : BitVec 32 := Scalar.addi c0_i32_212 v281
  v282.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c0_i32_42 : BitVec 32 := 0#32
  let v99 : BitVec 1 := Scalar.cmpi .eq v71 c0_i32_42
  let v289 : BitVec 32 := Scalar.extui v99
  let c0_i32_218 : BitVec 32 := 0#32
  let v290 : BitVec 1 := Scalar.cmpi .ne v289 c0_i32_218
  v290

def k0_dev21 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_dev22 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_228 : BitVec 32 := 1#32
  let v297 : BitVec 32 := Scalar.muli v70 c1_i32_228
  let v298 : BitVec 32 := Scalar.addi c0_i32_229 v297
  v298.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c1_i32_43 : BitVec 32 := 1#32
  let v100 : BitVec 1 := Scalar.cmpi .eq v71 c1_i32_43
  let v305 : BitVec 32 := Scalar.extui v100
  let c0_i32_236 : BitVec 32 := 0#32
  let v306 : BitVec 1 := Scalar.cmpi .ne v305 c0_i32_236
  v306

def k0_dev23 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_dev24 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_246 : BitVec 32 := 1#32
  let v313 : BitVec 32 := Scalar.muli v46 c1_i32_246
  let v314 : BitVec 32 := Scalar.addi c0_i32_247 v313
  v314.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c0_i32_42 : BitVec 32 := 0#32
  let v99 : BitVec 1 := Scalar.cmpi .eq v71 c0_i32_42
  let v321 : BitVec 32 := Scalar.extui v99
  let c0_i32_253 : BitVec 32 := 0#32
  let v322 : BitVec 1 := Scalar.cmpi .ne v321 c0_i32_253
  v322

def k0_dev25 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_dev26 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_263 : BitVec 32 := 1#32
  let v329 : BitVec 32 := Scalar.muli v70 c1_i32_263
  let v330 : BitVec 32 := Scalar.addi c0_i32_264 v329
  v330.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c1_i32_43 : BitVec 32 := 1#32
  let v100 : BitVec 1 := Scalar.cmpi .eq v71 c1_i32_43
  let v337 : BitVec 32 := Scalar.extui v100
  let c0_i32_271 : BitVec 32 := 0#32
  let v338 : BitVec 1 := Scalar.cmpi .ne v337 c0_i32_271
  v338

def k0_dev27 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_dev28 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_281 : BitVec 32 := 1#32
  let v345 : BitVec 32 := Scalar.muli v46 c1_i32_281
  let v346 : BitVec 32 := Scalar.addi c0_i32_282 v345
  v346.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c0_i32_42 : BitVec 32 := 0#32
  let v99 : BitVec 1 := Scalar.cmpi .eq v71 c0_i32_42
  let v353 : BitVec 32 := Scalar.extui v99
  let c0_i32_288 : BitVec 32 := 0#32
  let v354 : BitVec 1 := Scalar.cmpi .ne v353 c0_i32_288
  v354

def k0_dev29 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_dev30 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_298 : BitVec 32 := 1#32
  let v361 : BitVec 32 := Scalar.muli v70 c1_i32_298
  let v362 : BitVec 32 := Scalar.addi c0_i32_299 v361
  v362.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c1_i32_43 : BitVec 32 := 1#32
  let v100 : BitVec 1 := Scalar.cmpi .eq v71 c1_i32_43
  let v369 : BitVec 32 := Scalar.extui v100
  let c0_i32_306 : BitVec 32 := 0#32
  let v370 : BitVec 1 := Scalar.cmpi .ne v369 c0_i32_306
  v370

def k0_dev31 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_off2 (d0 : Dev nD) (c1_i32_308 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_307 : BitVec 32 := 8#32
  let v371 : BitVec 32 := Scalar.addi v23 c8_i32_307
  let v372 : BitVec 32 := Scalar.subi v371 c1_i32_308
  let c8_i32_309 : BitVec 32 := 8#32
  let v373 : BitVec 32 := Scalar.remsi v372 c8_i32_309
  let c0_i32_311 : BitVec 32 := 0#32
  let v375 : BitVec 1 := Scalar.cmpi .sgt v373 c0_i32_311
  let v376 : BitVec 32 := Scalar.extui v375
  let c0_i32_312 : BitVec 32 := 0#32
  let v377 : BitVec 1 := Scalar.cmpi .slt v373 c0_i32_312
  let v378 : BitVec 32 := Scalar.extui v377
  let v379 : BitVec 32 := Scalar.subi v376 v378
  let c4_i32_310 : BitVec 32 := 4#32
  let c0_i32_313 : BitVec 32 := 0#32
  let v380 : BitVec 1 := Scalar.cmpi .sgt c4_i32_310 c0_i32_313
  let v381 : BitVec 32 := Scalar.extui v380
  let c0_i32_314 : BitVec 32 := 0#32
  let v382 : BitVec 1 := Scalar.cmpi .slt c4_i32_310 c0_i32_314
  let v383 : BitVec 32 := Scalar.extui v382
  let v384 : BitVec 32 := Scalar.subi v381 v383
  let v385 : BitVec 1 := Scalar.cmpi .ne v379 v384
  let v386 : BitVec 32 := Scalar.remsi v373 c4_i32_310
  let c0_i32_315 : BitVec 32 := 0#32
  let v387 : BitVec 1 := Scalar.cmpi .ne v386 c0_i32_315
  let v388 : BitVec 1 := Scalar.andi v385 v387
  let v374 : BitVec 32 := Scalar.divsi v373 c4_i32_310
  let c1_i32_316 : BitVec 32 := 1#32
  let v389 : BitVec 32 := Scalar.subi v374 c1_i32_316
  let v390 : BitVec 32 := Scalar.select v388 v389 v374
  let c11_i32_318 : BitVec 32 := 11#32
  let c2_i32_317 : BitVec 32 := 2#32
  let v391 : BitVec 32 := Scalar.muli c2_i32_317 v373
  let v392 : BitVec 32 := Scalar.subi c11_i32_318 v391
  let v393 : BitVec 32 := Scalar.muli v390 v392
  let v394 : BitVec 32 := Scalar.addi v373 v393
  let c512_i32_325 : BitVec 32 := 512#32
  let v402 : BitVec 32 := Scalar.muli v394 c512_i32_325
  let c0_i32_326 : BitVec 32 := 0#32
  let v403 : BitVec 32 := Scalar.addi v402 c0_i32_326
  let v404 : Index := Scalar.indexCast v403
  let c0_327 : Index := 0#32
  ![v404.toNat, 0]
def k0_off3 (d0 : Dev nD) (c1_i32_328 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let v406 : BitVec 32 := Scalar.addi v23 c1_i32_328
  let c8_i32_329 : BitVec 32 := 8#32
  let v407 : BitVec 32 := Scalar.remsi v406 c8_i32_329
  let c0_i32_331 : BitVec 32 := 0#32
  let v409 : BitVec 1 := Scalar.cmpi .sgt v407 c0_i32_331
  let v410 : BitVec 32 := Scalar.extui v409
  let c0_i32_332 : BitVec 32 := 0#32
  let v411 : BitVec 1 := Scalar.cmpi .slt v407 c0_i32_332
  let v412 : BitVec 32 := Scalar.extui v411
  let v413 : BitVec 32 := Scalar.subi v410 v412
  let c4_i32_330 : BitVec 32 := 4#32
  let c0_i32_333 : BitVec 32 := 0#32
  let v414 : BitVec 1 := Scalar.cmpi .sgt c4_i32_330 c0_i32_333
  let v415 : BitVec 32 := Scalar.extui v414
  let c0_i32_334 : BitVec 32 := 0#32
  let v416 : BitVec 1 := Scalar.cmpi .slt c4_i32_330 c0_i32_334
  let v417 : BitVec 32 := Scalar.extui v416
  let v418 : BitVec 32 := Scalar.subi v415 v417
  let v419 : BitVec 1 := Scalar.cmpi .ne v413 v418
  let v420 : BitVec 32 := Scalar.remsi v407 c4_i32_330
  let c0_i32_335 : BitVec 32 := 0#32
  let v421 : BitVec 1 := Scalar.cmpi .ne v420 c0_i32_335
  let v422 : BitVec 1 := Scalar.andi v419 v421
  let v408 : BitVec 32 := Scalar.divsi v407 c4_i32_330
  let c1_i32_336 : BitVec 32 := 1#32
  let v423 : BitVec 32 := Scalar.subi v408 c1_i32_336
  let v424 : BitVec 32 := Scalar.select v422 v423 v408
  let c11_i32_338 : BitVec 32 := 11#32
  let c2_i32_337 : BitVec 32 := 2#32
  let v425 : BitVec 32 := Scalar.muli c2_i32_337 v407
  let v426 : BitVec 32 := Scalar.subi c11_i32_338 v425
  let v427 : BitVec 32 := Scalar.muli v424 v426
  let v428 : BitVec 32 := Scalar.addi v407 v427
  let c512_i32_345 : BitVec 32 := 512#32
  let v436 : BitVec 32 := Scalar.muli v428 c512_i32_345
  let c0_i32_346 : BitVec 32 := 0#32
  let v437 : BitVec 32 := Scalar.addi v436 c0_i32_346
  let v438 : Index := Scalar.indexCast v437
  let c0_347 : Index := 0#32
  ![v438.toNat, 0]
def k0_off3_at (r : Fin 3) : BitVec 32 :=
  if r.val < 1 then
    1#32
  else
    if r.val < 2 then
      2#32
    else
      4#32
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c512_i32_386 : BitVec 32 := 512#32
  let v471 : BitVec 32 := Scalar.muli v98 c512_i32_386
  let c0_i32_387 : BitVec 32 := 0#32
  let v472 : BitVec 32 := Scalar.addi v471 c0_i32_387
  let v473 : Index := Scalar.indexCast v472
  let c0_388 : Index := 0#32
  ![v473.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c0_i32_42 : BitVec 32 := 0#32
  let v99 : BitVec 1 := Scalar.cmpi .eq v71 c0_i32_42
  let v487 : BitVec 32 := Scalar.extui v99
  let c0_i32_406 : BitVec 32 := 0#32
  let v488 : BitVec 1 := Scalar.cmpi .ne v487 c0_i32_406
  v488

def k0_dev32 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c1_i32_43 : BitVec 32 := 1#32
  let v100 : BitVec 1 := Scalar.cmpi .eq v71 c1_i32_43
  let v501 : BitVec 32 := Scalar.extui v100
  let c0_i32_425 : BitVec 32 := 0#32
  let v502 : BitVec 1 := Scalar.cmpi .ne v501 c0_i32_425
  v502

def k0_dev33 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_31 : BitVec 32 := 8#32
  let v74 : BitVec 32 := Scalar.addi v23 c8_i32_31
  let c3_i32 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v75 : BitVec 32 := Scalar.muli c3_i32 v73
  let v76 : BitVec 32 := Scalar.addi v74 v75
  let c8_i32_32 : BitVec 32 := 8#32
  let v77 : BitVec 32 := Scalar.remsi v76 c8_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c4_i32_33 : BitVec 32 := 4#32
  let c0_i32_36 : BitVec 32 := 0#32
  let v84 : BitVec 1 := Scalar.cmpi .sgt c4_i32_33 c0_i32_36
  let v85 : BitVec 32 := Scalar.extui v84
  let c0_i32_37 : BitVec 32 := 0#32
  let v86 : BitVec 1 := Scalar.cmpi .slt c4_i32_33 c0_i32_37
  let v87 : BitVec 32 := Scalar.extui v86
  let v88 : BitVec 32 := Scalar.subi v85 v87
  let v89 : BitVec 1 := Scalar.cmpi .ne v83 v88
  let v90 : BitVec 32 := Scalar.remsi v77 c4_i32_33
  let c0_i32_38 : BitVec 32 := 0#32
  let v91 : BitVec 1 := Scalar.cmpi .ne v90 c0_i32_38
  let v92 : BitVec 1 := Scalar.andi v89 v91
  let v78 : BitVec 32 := Scalar.divsi v77 c4_i32_33
  let c1_i32_39 : BitVec 32 := 1#32
  let v93 : BitVec 32 := Scalar.subi v78 c1_i32_39
  let v94 : BitVec 32 := Scalar.select v92 v93 v78
  let c11_i32_41 : BitVec 32 := 11#32
  let c2_i32_40 : BitVec 32 := 2#32
  let v95 : BitVec 32 := Scalar.muli c2_i32_40 v77
  let v96 : BitVec 32 := Scalar.subi c11_i32_41 v95
  let v97 : BitVec 32 := Scalar.muli v94 v96
  let v98 : BitVec 32 := Scalar.addi v77 v97
  let c1_i32_776 : BitVec 32 := 1#32
  let v817 : BitVec 32 := Scalar.muli v98 c1_i32_776
  let v818 : BitVec 32 := Scalar.addi c0_i32_777 v817
  v818.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c1_i32_43 : BitVec 32 := 1#32
  let v100 : BitVec 1 := Scalar.cmpi .eq v71 c1_i32_43
  let v515 : BitVec 32 := Scalar.extui v100
  let c0_i32_443 : BitVec 32 := 0#32
  let v516 : BitVec 1 := Scalar.cmpi .ne v515 c0_i32_443
  v516

def k0_dev34 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c1_i32_5 : BitVec 32 := 1#32
  let v24 : BitVec 32 := Scalar.addi v23 c1_i32_5
  let c8_i32_6 : BitVec 32 := 8#32
  let v25 : BitVec 32 := Scalar.remsi v24 c8_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c4_i32_7 : BitVec 32 := 4#32
  let c0_i32_10 : BitVec 32 := 0#32
  let v32 : BitVec 1 := Scalar.cmpi .sgt c4_i32_7 c0_i32_10
  let v33 : BitVec 32 := Scalar.extui v32
  let c0_i32_11 : BitVec 32 := 0#32
  let v34 : BitVec 1 := Scalar.cmpi .slt c4_i32_7 c0_i32_11
  let v35 : BitVec 32 := Scalar.extui v34
  let v36 : BitVec 32 := Scalar.subi v33 v35
  let v37 : BitVec 1 := Scalar.cmpi .ne v31 v36
  let v38 : BitVec 32 := Scalar.remsi v25 c4_i32_7
  let c0_i32_12 : BitVec 32 := 0#32
  let v39 : BitVec 1 := Scalar.cmpi .ne v38 c0_i32_12
  let v40 : BitVec 1 := Scalar.andi v37 v39
  let v26 : BitVec 32 := Scalar.divsi v25 c4_i32_7
  let c1_i32_13 : BitVec 32 := 1#32
  let v41 : BitVec 32 := Scalar.subi v26 c1_i32_13
  let v42 : BitVec 32 := Scalar.select v40 v41 v26
  let c11_i32_15 : BitVec 32 := 11#32
  let c2_i32_14 : BitVec 32 := 2#32
  let v43 : BitVec 32 := Scalar.muli c2_i32_14 v25
  let v44 : BitVec 32 := Scalar.subi c11_i32_15 v43
  let v45 : BitVec 32 := Scalar.muli v42 v44
  let v46 : BitVec 32 := Scalar.addi v25 v45
  let c1_i32_776 : BitVec 32 := 1#32
  let v817 : BitVec 32 := Scalar.muli v46 c1_i32_776
  let v818 : BitVec 32 := Scalar.addi c0_i32_777 v817
  v818.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c2_i32_28 : BitVec 32 := 2#32
  let v71 : BitVec 32 := Scalar.remsi v23 c2_i32_28
  let c0_i32_42 : BitVec 32 := 0#32
  let v99 : BitVec 1 := Scalar.cmpi .eq v71 c0_i32_42
  let v529 : BitVec 32 := Scalar.extui v99
  let c0_i32_462 : BitVec 32 := 0#32
  let v530 : BitVec 1 := Scalar.cmpi .ne v529 c0_i32_462
  v530

def k0_dev35 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_16 : BitVec 32 := 8#32
  let v47 : BitVec 32 := Scalar.addi v23 c8_i32_16
  let c1_i32_17 : BitVec 32 := 1#32
  let v48 : BitVec 32 := Scalar.subi v47 c1_i32_17
  let c8_i32_18 : BitVec 32 := 8#32
  let v49 : BitVec 32 := Scalar.remsi v48 c8_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c4_i32_19 : BitVec 32 := 4#32
  let c0_i32_22 : BitVec 32 := 0#32
  let v56 : BitVec 1 := Scalar.cmpi .sgt c4_i32_19 c0_i32_22
  let v57 : BitVec 32 := Scalar.extui v56
  let c0_i32_23 : BitVec 32 := 0#32
  let v58 : BitVec 1 := Scalar.cmpi .slt c4_i32_19 c0_i32_23
  let v59 : BitVec 32 := Scalar.extui v58
  let v60 : BitVec 32 := Scalar.subi v57 v59
  let v61 : BitVec 1 := Scalar.cmpi .ne v55 v60
  let v62 : BitVec 32 := Scalar.remsi v49 c4_i32_19
  let c0_i32_24 : BitVec 32 := 0#32
  let v63 : BitVec 1 := Scalar.cmpi .ne v62 c0_i32_24
  let v64 : BitVec 1 := Scalar.andi v61 v63
  let v50 : BitVec 32 := Scalar.divsi v49 c4_i32_19
  let c1_i32_25 : BitVec 32 := 1#32
  let v65 : BitVec 32 := Scalar.subi v50 c1_i32_25
  let v66 : BitVec 32 := Scalar.select v64 v65 v50
  let c11_i32_27 : BitVec 32 := 11#32
  let c2_i32_26 : BitVec 32 := 2#32
  let v67 : BitVec 32 := Scalar.muli c2_i32_26 v49
  let v68 : BitVec 32 := Scalar.subi c11_i32_27 v67
  let v69 : BitVec 32 := Scalar.muli v66 v68
  let v70 : BitVec 32 := Scalar.addi v49 v69
  let c1_i32_776 : BitVec 32 := 1#32
  let v817 : BitVec 32 := Scalar.muli v70 c1_i32_776
  let v818 : BitVec 32 := Scalar.addi c0_i32_777 v817
  v818.toNat
def k0_off5 (d0 : Dev nD) (c0_i32_581 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c11_i32 : BitVec 32 := 11#32
  let c2_i32 : BitVec 32 := 2#32
  let v20 : BitVec 32 := Scalar.muli c2_i32 v2
  let v21 : BitVec 32 := Scalar.subi c11_i32 v20
  let v22 : BitVec 32 := Scalar.muli v19 v21
  let v23 : BitVec 32 := Scalar.addi v2 v22
  let c8_i32_556 : BitVec 32 := 8#32
  let v658 : BitVec 32 := Scalar.addi v23 c8_i32_556
  let c3_i32_557 : BitVec 32 := 3#32
  let c1_i32_30 : BitVec 32 := 1#32
  let c2_i32_29 : BitVec 32 := 2#32
  let c2_i32_28 : BitVec 32 := 2#32
  let v71 : BitVec 32 := Scalar.remsi v23 c2_i32_28
  let v72 : BitVec 32 := Scalar.muli c2_i32_29 v71
  let v73 : BitVec 32 := Scalar.subi c1_i32_30 v72
  let v659 : BitVec 32 := Scalar.muli c3_i32_557 v73
  let v660 : BitVec 32 := Scalar.subi v658 v659
  let c8_i32_558 : BitVec 32 := 8#32
  let v661 : BitVec 32 := Scalar.remsi v660 c8_i32_558
  let c0_i32_560 : BitVec 32 := 0#32
  let v663 : BitVec 1 := Scalar.cmpi .sgt v661 c0_i32_560
  let v664 : BitVec 32 := Scalar.extui v663
  let c0_i32_561 : BitVec 32 := 0#32
  let v665 : BitVec 1 := Scalar.cmpi .slt v661 c0_i32_561
  let v666 : BitVec 32 := Scalar.extui v665
  let v667 : BitVec 32 := Scalar.subi v664 v666
  let c4_i32_559 : BitVec 32 := 4#32
  let c0_i32_562 : BitVec 32 := 0#32
  let v668 : BitVec 1 := Scalar.cmpi .sgt c4_i32_559 c0_i32_562
  let v669 : BitVec 32 := Scalar.extui v668
  let c0_i32_563 : BitVec 32 := 0#32
  let v670 : BitVec 1 := Scalar.cmpi .slt c4_i32_559 c0_i32_563
  let v671 : BitVec 32 := Scalar.extui v670
  let v672 : BitVec 32 := Scalar.subi v669 v671
  let v673 : BitVec 1 := Scalar.cmpi .ne v667 v672
  let v674 : BitVec 32 := Scalar.remsi v661 c4_i32_559
  let c0_i32_564 : BitVec 32 := 0#32
  let v675 : BitVec 1 := Scalar.cmpi .ne v674 c0_i32_564
  let v676 : BitVec 1 := Scalar.andi v673 v675
  let v662 : BitVec 32 := Scalar.divsi v661 c4_i32_559
  let c1_i32_565 : BitVec 32 := 1#32
  let v677 : BitVec 32 := Scalar.subi v662 c1_i32_565
  let v678 : BitVec 32 := Scalar.select v676 v677 v662
  let c11_i32_567 : BitVec 32 := 11#32
  let c2_i32_566 : BitVec 32 := 2#32
  let v679 : BitVec 32 := Scalar.muli c2_i32_566 v661
  let v680 : BitVec 32 := Scalar.subi c11_i32_567 v679
  let v681 : BitVec 32 := Scalar.muli v678 v680
  let v682 : BitVec 32 := Scalar.addi v661 v681
  let c512_i32_580 : BitVec 32 := 512#32
  let v695 : BitVec 32 := Scalar.muli v682 c512_i32_580
  let v696 : BitVec 32 := Scalar.addi v695 c0_i32_581
  let v697 : Index := Scalar.indexCast v696
  let c0_582 : Index := 0#32
  ![v697.toNat, 0]
abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mesh.lean ====
/-
# The ring of eight devices and what the kernel's `device_id` arithmetic computes on it

The eight devices are laid on a ring: devices 0…3 in order, then 7, 6, 5, 4. `pos c` is device `c`'s place on that ring
(`pos` is its own inverse), `right c` / `left c` the neighbours one place on and one place back, and `partner c` the
device three places on (from an even place) or three places back (from an odd place). Every fact here is about eight
devices and is checked by computing all of them.
-/
module

public import proofs.«01_k».proof.Proof.Gen.KernelIdeal
public import proofs.«01_k».proof.Proof.Gen.KernelIdeal.Skeleton

@[expose] public section

namespace Cert.RingProof

open Cert.KernelIdeal Cert.KernelIdeal.Gen
open Idealize.ShloMosaic

/-- A device's place on the ring, and the device at a place: 0, 1, 2, 3 stay, 4, 5, 6, 7 are met backwards. -/
def pos (c : Dev nD) : Dev nD := if c.val < 4 then c else (Fin.rev c + 4 : Fin 8)

/-- The neighbour one place on. -/
def right (c : Dev nD) : Dev nD := pos (pos c + 1 : Fin 8)
/-- The neighbour one place back. -/
def left (c : Dev nD) : Dev nD := pos (pos c + 7 : Fin 8)
/-- Whether the device's place on the ring is even. -/
def even (c : Dev nD) : Bool := (pos c).val % 2 == 0
/-- The device across: three places on from an even place, three places back from an odd one. -/
def partner (c : Dev nD) : Dev nD := pos (if even c then (pos c + 3 : Fin 8) else (pos c + 5 : Fin 8))
/-- The device opposite, four places on. -/
def opposite (c : Dev nD) : Dev nD := pos (pos c + 4 : Fin 8)
/-- The device whose block arrives last, in two halves: three places on the other side from the partner. -/
def last (c : Dev nD) : Dev nD := pos (if even c then (pos c + 5 : Fin 8) else (pos c + 3 : Fin 8))

theorem left_right (c : Dev nD) : left (right c) = c := by revert c; decide
theorem right_left (c : Dev nD) : right (left c) = c := by revert c; decide
theorem partner_partner (c : Dev nD) : partner (partner c) = c := by revert c; decide
theorem even_right (c : Dev nD) : even (right c) = !even c := by revert c; decide
theorem even_left (c : Dev nD) : even (left c) = !even c := by revert c; decide
theorem even_partner (c : Dev nD) : even (partner c) = !even c := by revert c; decide

/-- Going one place on, one place back, and across, as permutations of the devices. -/
def rightE : Dev nD ≃ Dev nD := ⟨right, left, left_right, right_left⟩
def partnerE : Dev nD ≃ Dev nD := ⟨partner, partner, partner_partner, partner_partner⟩

/-! ## The targets of the kernel's signals and transfers -/

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = partner c := by revert c; decide +kernel
theorem dev4_eq (c : Dev nD) : (⟨k0_dev4 c, k0_dev4_lt c⟩ : Dev nD) = right c := by revert c; decide +kernel
theorem dev5_eq (c : Dev nD) : (⟨k0_dev5 c, k0_dev5_lt c⟩ : Dev nD) = left c := by revert c; decide +kernel
theorem dev6_eq (c : Dev nD) : (⟨k0_dev6 c, k0_dev6_lt c⟩ : Dev nD) = partner c := by revert c; decide +kernel
theorem dev7_eq (c : Dev nD) : (⟨k0_dev7 c, k0_dev7_lt c⟩ : Dev nD) = right c := by revert c; decide +kernel
theorem dev8_eq (c : Dev nD) : (⟨k0_dev8 c, k0_dev8_lt c⟩ : Dev nD) = left c := by revert c; decide +kernel
theorem dev9_eq (c : Dev nD) : (⟨k0_dev9 c, k0_dev9_lt c⟩ : Dev nD) = partner c := by revert c; decide +kernel
theorem dev10_eq (c : Dev nD) : (⟨k0_dev10 c, k0_dev10_lt c⟩ : Dev nD) = right c := by revert c; decide +kernel
theorem dev11_eq (c : Dev nD) : (⟨k0_dev11 c, k0_dev11_lt c⟩ : Dev nD) = left c := by revert c; decide +kernel
theorem dev12_eq (c : Dev nD) : (⟨k0_dev12 c, k0_dev12_lt c⟩ : Dev nD) = partner c := by revert c; decide +kernel
theorem dev13_eq (c : Dev nD) : (⟨k0_dev13 c, k0_dev13_lt c⟩ : Dev nD) = right c := by revert c; decide +kernel
theorem dev14_eq (c : Dev nD) : (⟨k0_dev14 c, k0_dev14_lt c⟩ : Dev nD) = left c := by revert c; decide +kernel
theorem dev15_eq (c : Dev nD) : (⟨k0_dev15 c, k0_dev15_lt c⟩ : Dev nD) = partner c := by revert c; decide +kernel
theorem dev16_eq (c : Dev nD) : (⟨k0_dev16 c, k0_dev16_lt c⟩ : Dev nD) = right c := by revert c; decide +kernel
theorem dev17_eq (c : Dev nD) (h : k0_cond1 c = 1#1) : (⟨k0_dev17 c, k0_dev17_lt c h⟩ : Dev nD) = partner c := by revert c; decide +kernel
theorem dev18_eq (c : Dev nD) : (⟨k0_dev18 c, k0_dev18_lt c⟩ : Dev nD) = left c := by revert c; decide +kernel
theorem dev19_eq (c : Dev nD) (h : k0_cond2 c = 1#1) : (⟨k0_dev19 c, k0_dev19_lt c h⟩ : Dev nD) = partner c := by revert c; decide +kernel
theorem dev20_eq (c : Dev nD) : (⟨k0_dev20 c, k0_dev20_lt c⟩ : Dev nD) = right c := by revert c; decide +kernel
theorem dev21_eq (c : Dev nD) (h : k0_cond3 c = 1#1) : (⟨k0_dev21 c, k0_dev21_lt c h⟩ : Dev nD) = partner c := by revert c; decide +kernel
theorem dev22_eq (c : Dev nD) : (⟨k0_dev22 c, k0_dev22_lt c⟩ : Dev nD) = left c := by revert c; decide +kernel
theorem dev23_eq (c : Dev nD) (h : k0_cond4 c = 1#1) : (⟨k0_dev23 c, k0_dev23_lt c h⟩ : Dev nD) = partner c := by revert c; decide +kernel
theorem dev24_eq (c : Dev nD) : (⟨k0_dev24 c, k0_dev24_lt c⟩ : Dev nD) = right c := by revert c; decide +kernel
theorem dev25_eq (c : Dev nD) (h : k0_cond5 c = 1#1) : (⟨k0_dev25 c, k0_dev25_lt c h⟩ : Dev nD) = partner c := by revert c; decide +kernel
theorem dev26_eq (c : Dev nD) : (⟨k0_dev26 c, k0_dev26_lt c⟩ : Dev nD) = left c := by revert c; decide +kernel
theorem dev27_eq (c : Dev nD) (h : k0_cond6 c = 1#1) : (⟨k0_dev27 c, k0_dev27_lt c h⟩ : Dev nD) = partner c := by revert c; decide +kernel
theorem dev28_eq (c : Dev nD) : (⟨k0_dev28 c, k0_dev28_lt c⟩ : Dev nD) = right c := by revert c; decide +kernel
theorem dev29_eq (c : Dev nD) (h : k0_cond7 c = 1#1) : (⟨k0_dev29 c, k0_dev29_lt c h⟩ : Dev nD) = partner c := by revert c; decide +kernel
theorem dev30_eq (c : Dev nD) : (⟨k0_dev30 c, k0_dev30_lt c⟩ : Dev nD) = left c := by revert c; decide +kernel
theorem dev31_eq (c : Dev nD) (h : k0_cond8 c = 1#1) : (⟨k0_dev31 c, k0_dev31_lt c h⟩ : Dev nD) = partner c := by revert c; decide +kernel
theorem dev32_eq (c : Dev nD) (h : k0_cond9 c = 1#1) : (⟨k0_dev32 c, k0_dev32_lt c h⟩ : Dev nD) = partner c := by revert c; decide +kernel
theorem dev33_eq (c : Dev nD) (h : k0_cond10 c = 1#1) : (⟨k0_dev33 c, k0_dev33_lt c h⟩ : Dev nD) = partner c := by revert c; decide +kernel
theorem dev34_eq (c : Dev nD) (h : k0_cond11 c = 1#1) : (⟨k0_dev34 c, k0_dev34_lt c h⟩ : Dev nD) = right c := by revert c; decide +kernel
theorem dev35_eq (c : Dev nD) (h : k0_cond12 c = 1#1) : (⟨k0_dev35 c, k0_dev35_lt c h⟩ : Dev nD) = left c := by revert c; decide +kernel

/-! ## The kernel's conditions: its place on the ring is even, or odd -/

theorem cond1_iff (c : Dev nD) : k0_cond1 c = 1#1 ↔ even c = true := by revert c; decide +kernel
theorem cond2_iff (c : Dev nD) : k0_cond2 c = 1#1 ↔ even c = false := by revert c; decide +kernel
theorem cond3_iff (c : Dev nD) : k0_cond3 c = 1#1 ↔ even c = true := by revert c; decide +kernel
theorem cond4_iff (c : Dev nD) : k0_cond4 c = 1#1 ↔ even c = false := by revert c; decide +kernel
theorem cond5_iff (c : Dev nD) : k0_cond5 c = 1#1 ↔ even c = true := by revert c; decide +kernel
theorem cond6_iff (c : Dev nD) : k0_cond6 c = 1#1 ↔ even c = false := by revert c; decide +kernel
theorem cond7_iff (c : Dev nD) : k0_cond7 c = 1#1 ↔ even c = true := by revert c; decide +kernel
theorem cond8_iff (c : Dev nD) : k0_cond8 c = 1#1 ↔ even c = false := by revert c; decide +kernel
theorem cond9_iff (c : Dev nD) : k0_cond9 c = 1#1 ↔ even c = true := by revert c; decide +kernel
theorem cond10_iff (c : Dev nD) : k0_cond10 c = 1#1 ↔ even c = false := by revert c; decide +kernel
theorem cond11_iff (c : Dev nD) : k0_cond11 c = 1#1 ↔ even c = false := by revert c; decide +kernel
theorem cond12_iff (c : Dev nD) : k0_cond12 c = 1#1 ↔ even c = true := by revert c; decide +kernel

/-! ## Where each block of rows of the result is stored -/

theorem off2_left (c : Dev nD) : k0_off2 c 1#32 = ![512 * (left c).val, 0] := by revert c; decide +kernel
theorem off2_left2 (c : Dev nD) : k0_off2 c 2#32 = ![512 * (left (left c)).val, 0] := by revert c; decide +kernel
theorem off3_right (c : Dev nD) : k0_off3 c 1#32 = ![512 * (right c).val, 0] := by revert c; decide +kernel
theorem off3_right2 (c : Dev nD) : k0_off3 c 2#32 = ![512 * (right (right c)).val, 0] := by revert c; decide +kernel
theorem off3_opposite (c : Dev nD) : k0_off3 c 4#32 = ![512 * (opposite c).val, 0] := by revert c; decide +kernel
theorem off4_partner (c : Dev nD) : k0_off4 c = ![512 * (partner c).val, 0] := by revert c; decide +kernel
theorem off5_top (c : Dev nD) : k0_off5 c 0#32 = ![512 * (last c).val, 0] := by revert c; decide +kernel
theorem off5_bot (c : Dev nD) : k0_off5 c 256#32 = ![512 * (last c).val + 256, 0] := by revert c; decide +kernel

/-- The eight blocks a device multiplies are those of the eight devices. -/
theorem origins_univ (c : Dev nD) :
    (Finset.univ : Finset (Dev nD)) = [c, left c, right c, partner c, left (left c), right (right c), opposite c, last c].toFinset := by
  revert c; decide
theorem origins_nodup (c : Dev nD) :
    [c, left c, right c, partner c, left (left c), right (right c), opposite c, last c].Nodup := by revert c; decide

end Cert.RingProof
-- ==== Proof.Hold.lean ====
/-
# Holding some rows of a buffer at known contents

`hold c m S q X` says: device `c` holds, at share `q`, the elements `S` of the memref `m`, and they read `X`. Here are
the ways such a holding is cut (by elements, by share), obtained (by a store, by the landing of a transfer) and read.
-/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange: rounds of three named duties per semaphore. -/
abbrev UB : Type := URounds (GSem nD τ sig) (Fin 3)
abbrev UU : Type := UR sig nD τ × UB

local notation "𝕄" => MT nD τ sig Unit (Elt F) ℕ UU ℕ

abbrev 𝒱₀ : Variants := Variants.none

/-- Device `c` holds the elements `S` of `m` at share `q`, and they read `X`. -/
def hold (c : Dev nD) {s : Shape} {e : EltTy} (m : Memref sig .tc .vmem s e) (S : Finset s.Idx) (q : PosShare TreeShare)
    (X : s.Idx → Elt F e) : sProp 𝕄 :=
  m.view.loc (c : Thread nD τ) ↦[m.view.setOn S]{q} (m.view.rep X : m.view.ty.Contents (Elt F))

/-- Device `c` holds the elements `S` of `m` in full, whatever they read. -/
def room (c : Dev nD) {s : Shape} {e : EltTy} (m : Memref sig .tc .vmem s e) (S : Finset s.Idx) : sProp 𝕄 :=
  iprop(∃ f : m.view.ty.Contents (Elt F), m.view.loc (c : Thread nD τ) ↦[m.view.setOn S]{fullShare} f)

/-- An element of a rectangle is one of its placements. -/
theorem rect_mem {s : Shape} {r : Rect s} {y : s.Idx} (h : y ∈ r.set) : ∃ j, r.emb j = y := by
  rw [← Rect.map_emb_univ] at h
  obtain ⟨j, -, e⟩ := Finset.mem_map.mp h
  exact ⟨j, e⟩

section
variable (c : Dev nD) {s : Shape} {e : EltTy} (m : Memref sig .tc .vmem s e)

instance hold_storable (S : Finset s.Idx) (q : PosShare TreeShare) (X : s.Idx → Elt F e) :
    BI.Storable (upEmb : UEmb _ 𝕄) (hold c m S q X) := by unfold hold; infer_instance
instance room_storable (S : Finset s.Idx) : BI.Storable (upEmb : UEmb _ 𝕄) (room (F := F) c m S) := by
  unfold room; infer_instance

/-- Elements held at contents that read `X` there are held at `X`. -/
theorem hold_of_read {S : Finset s.Idx} {q : PosShare TreeShare} {X : s.Idx → Elt F e} {f : m.view.ty.Contents (Elt F)}
    (h : ∀ y ∈ S, m.view.read (Elt F) f y = X y) :
    (m.view.loc (c : Thread nD τ) ↦[m.view.setOn S]{q} f : sProp 𝕄) = hold c m S q X := by
  unfold hold
  refine pointsTo_congr fun i hi => ?_
  obtain ⟨y, hy, rfl⟩ := Finset.mem_map.mp hi
  rw [View.rep_emb, ← h y hy, View.read_apply, cast_cast, cast_eq]

/-- Contents that agree on the elements held are the same holding. -/
theorem hold_congr {S : Finset s.Idx} {q : PosShare TreeShare} {X Y : s.Idx → Elt F e} (h : ∀ y ∈ S, X y = Y y) :
    (hold c m S q X : sProp 𝕄) = hold c m S q Y :=
  hold_of_read c m fun y hy => by rw [View.read_rep, h y hy]

/-- A holding in full is room. -/
theorem room_of_hold {S : Finset s.Idx} {X : s.Idx → Elt F e} : (hold c m S fullShare X : sProp 𝕄) ⊢ room c m S := by
  unfold hold room; iintro H; iexists _; iexact H

/-- A holding cut by its share. -/
theorem hold_share {S : Finset s.Idx} (q : PosShare TreeShare) {X : s.Idx → Elt F e} :
    (hold c m S q X : sProp 𝕄) ⊣⊢ iprop(hold c m S q.left X ∗ hold c m S q.right X) :=
  pointsTo_share (PosShare.mem_left_op_right q)

/-- The whole cut into blocks of elements. -/
theorem hold_blocks {n : ℕ} (I : Fin n → Finset s.Idx) (hd : ∀ b b', b ≠ b' → Disjoint (I b) (I b'))
    (hc : Finset.univ.biUnion I = Finset.univ) (q : PosShare TreeShare) (X : s.Idx → Elt F e) :
    (hold c m Finset.univ q X : sProp 𝕄) = bigSep Finset.univ fun b => hold c m (I b) q X := by
  unfold hold
  have e : m.view.setOn Finset.univ = Finset.univ.biUnion fun b => m.view.setOn (I b) := by
    rw [← hc]; unfold View.setOn
    rw [Finset.map_eq_image, Finset.biUnion_image]
    exact Finset.biUnion_congr rfl fun b _ => (Finset.map_eq_image _ _).symm
  rw [e]
  exact pointsTo_biUnion _ _ fun b _ b' _ h => (Finset.disjoint_map _).mpr (hd b b' h)

/-- The whole as room, cut into rooms. -/
theorem room_blocks {n : ℕ} (I : Fin n → Finset s.Idx) (hd : ∀ b b', b ≠ b' → Disjoint (I b) (I b'))
    (hc : Finset.univ.biUnion I = Finset.univ) :
    (room c m Finset.univ : sProp 𝕄) ⊢ bigSep Finset.univ fun b => room (F := F) c m (I b) := by
  have h : ∀ f : m.view.ty.Contents (Elt F), (m.view.loc (c : Thread nD τ) ↦[m.view.setOn Finset.univ]{fullShare} f : sProp 𝕄)
      ⊢ bigSep Finset.univ fun b => room (F := F) c m (I b) := fun f => by
    rw [hold_of_read c m (X := m.view.read (Elt F) f) fun _ _ => rfl, hold_blocks c m I hd hc]
    exact bigSep_mono fun b _ => room_of_hold c m
  unfold room at h ⊢
  iintro ⟨%f, H⟩
  iapply (h f) $$ H

/-- A holding of two disjoint sets of elements. -/
theorem hold_union {S T : Finset s.Idx} (h : Disjoint S T) (q : PosShare TreeShare) (X : s.Idx → Elt F e) :
    (hold c m (S ∪ T) q X : sProp 𝕄) = iprop(hold c m S q X ∗ hold c m T q X) := by
  have h' : Disjoint (α := Finset (Idx (m.view.loc (c : Thread nD τ)))) (m.view.setOn S) (m.view.setOn T) := (Finset.disjoint_map _).mpr h
  have u : (m.view.loc (c : Thread nD τ) ↦[m.view.setOn S ∪ m.view.setOn T]{q} m.view.rep X : sProp 𝕄)
      ⊣⊢ iprop((m.view.loc (c : Thread nD τ) ↦[m.view.setOn S]{q} m.view.rep X) ∗ (m.view.loc (c : Thread nD τ) ↦[m.view.setOn T]{q} m.view.rep X)) :=
    pointsTo_union h'
  refine Eq.trans (congrArg (fun I => (m.view.loc (c : Thread nD τ) ↦[I]{q} m.view.rep X : sProp 𝕄)) ?_) (equiv_iff.mp ⟨u.1, u.2⟩)
  refine Finset.ext fun i => ?_
  rw [Finset.mem_union]
  simp only [View.setOn, Finset.mem_map, Finset.mem_union, or_and_right, exists_or]

/-- Room in two disjoint sets of elements. -/
theorem room_union {S T : Finset s.Idx} (h : Disjoint S T) :
    (room c m (S ∪ T) : sProp 𝕄) ⊢ iprop(room (F := F) c m S ∗ room (F := F) c m T) := by
  have hh : ∀ f : m.view.ty.Contents (Elt F), (m.view.loc (c : Thread nD τ) ↦[m.view.setOn (S ∪ T)]{fullShare} f : sProp 𝕄)
      ⊢ iprop(room (F := F) c m S ∗ room (F := F) c m T) := fun f => by
    rw [hold_of_read c m (X := m.view.read (Elt F) f) fun _ _ => rfl, hold_union c m h]
    exact BI.sep_mono (room_of_hold c m) (room_of_hold c m)
  unfold room at hh ⊢
  iintro ⟨%f, H⟩
  iapply (hh f) $$ H

/-! ## Loads, stores and landings -/

/-- A load of elements held reads them. -/
theorem hold_load {S : Finset s.Idx} {q : PosShare TreeShare} {X : s.Idx → Elt F e} {r : LoadRect s} {hl : m.view.LoadsAt r}
    {α : Type} {Q : α → sProp 𝕄} {k : (r.shape.Idx → Elt F e) → Prog (TpuEff nD τ sig (Elt F) Λ₀ .tc) α} (hS : r.set ⊆ S)
    (w : r.shape.Idx → Elt F e) (hw : (fun y => X (r.idx y)) = w) :
    (hold c m S q X : sProp 𝕄)
      ⊢ iprop((hold c m S q X -∗ wp frame (wpE (defs₀ (F := F)) 𝒱₀ (c : Thread nD τ) none) Set.univ (k w) Q)
        -∗ wp frame (wpE (defs₀ (F := F)) 𝒱₀ (c : Thread nD τ) none) Set.univ (.op (.load m r hl) k) Q) := by
  subst hw
  unfold hold
  rw [← View.readAt_rep (Val := Elt F) m.view r X]
  exact wp_load 𝒱₀ (c : Thread nD τ) none Set.univ (Finset.map_subset_map.mpr hS)

/-- A load of elements one has room in; what it reads is not used. -/
theorem room_load {S : Finset s.Idx} {r : LoadRect s} {hl : m.view.LoadsAt r}
    {α : Type} {Q : α → sProp 𝕄} {k : (r.shape.Idx → Elt F e) → Prog (TpuEff nD τ sig (Elt F) Λ₀ .tc) α} (hS : r.set ⊆ S) :
    (room c m S : sProp 𝕄)
      ⊢ iprop((∀ w, room c m S -∗ wp frame (wpE (defs₀ (F := F)) 𝒱₀ (c : Thread nD τ) none) Set.univ (k w) Q)
        -∗ wp frame (wpE (defs₀ (F := F)) 𝒱₀ (c : Thread nD τ) none) Set.univ (.op (.load m r hl) k) Q) := by
  unfold room
  iintro ⟨%f, H⟩ Hk
  iapply (wp_load 𝒱₀ (c : Thread nD τ) none Set.univ (m := m) (S := m.view.setOn S) (Finset.map_subset_map.mpr hS)) $$ H
  iintro H
  iapply Hk
  iexists f; iexact H

/-- A store over the elements of a rectangle one has room in leaves them at what was stored. -/
theorem room_store {r : Rect s} {w : r.shape.Idx → Elt F e} {hx : (m.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} (X : s.Idx → Elt F e) (hX : ∀ j, X (r.emb j) = w j) :
    (room c m r.set : sProp 𝕄)
      ⊢ iprop((hold c m r.set fullShare X -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold room
  iintro ⟨%f, H⟩ Hk
  iapply (wp_store 𝒱₀ (c : Thread nD τ) none Set.univ (m := m) (r := r) (Mk := Finset.univ) (S := m.view.setOn r.set)
    (by rw [View.setOn_univ, View.set_slice]; exact subset_rfl)) $$ H
  iintro H
  iapply Hk
  rw [← hold_of_read c m (f := (m.access r).write (Elt F) f w Finset.univ)]
  · iexact H
  · intro y hy
    obtain ⟨j, rfl⟩ := rect_mem hy
    rw [View.read_slice_write_emb r f w (Finset.mem_univ _), hX]

/-- What a transfer into a rectangle of `m` wrote is a holding at what it read. -/
theorem hold_landing {r : Rect s} (f : m.view.ty.Contents (Elt F)) (w : r.shape.Idx → Elt F e) (X : s.Idx → Elt F e)
    (hX : ∀ j, X (r.emb j) = w j) :
    ((m.view.slice r).loc (c : Thread nD τ) ↦[(m.view.slice r).set]{fullShare} (m.view.slice r).write (Elt F) f w Finset.univ : sProp 𝕄)
      = hold c m r.set fullShare X := by
  rw [View.set_slice]
  exact hold_of_read c m fun y hy => by
    obtain ⟨j, rfl⟩ := rect_mem hy
    rw [View.read_slice_write_emb r f w (Finset.mem_univ _), hX]

/-- What a transfer into the whole of `m` wrote is a holding at what it read. -/
theorem hold_landing_whole (f : m.view.ty.Contents (Elt F)) (w : s.Idx → Elt F e) :
    (m.view.loc (c : Thread nD τ) ↦[m.view.set]{fullShare} m.view.write (Elt F) f w Finset.univ : sProp 𝕄)
      = hold c m Finset.univ fullShare w :=
  hold_of_read c m fun y _ => by rw [View.read_write_univ]

end

/-! ## Whole buffers -/

/-- A whole buffer held is the buffer at those contents. -/
theorem hold_whole (c : Dev nD) {s : Shape} {e : EltTy} (m : Memref sig .tc .vmem s e)
    (hm : m.view.setOn Finset.univ = Finset.univ) (q : PosShare TreeShare) (f : m.view.ty.Contents (Elt F)) :
    (m.view.loc (c : Thread nD τ) ↦{q} f : sProp 𝕄) = hold c m Finset.univ q (m.view.read (Elt F) f) := by
  rw [← hold_of_read c m (S := Finset.univ) (f := f) (X := m.view.read (Elt F) f) fun _ _ => rfl, hm]

end Cert.RingProof
-- ==== Proof.Pieces.lean ====
/-
# The buffers, their pieces, and what each transfer carries

Every transfer is numbered as its pair of semaphores is, 0 … 25:

* `kA q`, `kB q`, `kC q` (0–3, 4–7, 8–11): quarter `q` of the device's own block, to its right, left and across;
* `kA2 q` (12–15): quarter `q` of what came from the left, on to the right; `kB2 q` (16–19): quarter `q` of what came from
  the right, on to the left; `kC2 q` (20–23): the one (even place) or the other (odd place), across;
* 24: the top half of what came from two places to the left (even) or right (odd), across;
* 25: the bottom half of what came from two places to the right (even) or left (odd), on to the left (even) or right (odd).
-/
module

public import proofs.«01_k».proof.Proof.Mesh
public import proofs.«01_k».proof.Proof.Hold

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers -/

abbrev M512 : Type := Memref sig .tc .vmem S512x4096 .fp8e4m3
abbrev M256 : Type := Memref sig .tc .vmem S256x4096 .fp8e4m3

abbrev xM : M512 := Memref.whole cc0_stg0_0
abbrev wM : Memref sig .tc .vmem S4096x1024 .fp8e4m3 := Memref.whole cc0_stg1_0
abbrev outM : Memref sig .tc .vmem S4096x1024 .f32 := Memref.whole cc0_stg4_0
abbrev own8M : M512 := Memref.whole cc0_scratch0
abbrev l1M : M512 := Memref.whole cc0_scratch1
abbrev l2M : M512 := Memref.whole cc0_scratch2
abbrev r1M : M512 := Memref.whole cc0_scratch3
abbrev r2M : M512 := Memref.whole cc0_scratch4
abbrev c1M : M512 := Memref.whole cc0_scratch5
abbrev c2M : M512 := Memref.whole cc0_scratch6
abbrev c3M : M256 := Memref.whole cc0_scratch7
abbrev r3M : M256 := Memref.whole cc0_scratch8
abbrev w8M : Memref sig .tc .vmem S4096x1024 .fp8e4m3 := Memref.whole cc0_scratch9

/-! ## Rows -/

theorem inbQ (q : Fin 4) : ∀ a, (![128 * q.val, 0] : Fin 2 → ℕ) a + S128x4096.size a ≤ S512x4096.size a := by revert q; decide
theorem inbH (h : Fin 2) : ∀ a, (![256 * h.val, 0] : Fin 2 → ℕ) a + S256x4096.size a ≤ S512x4096.size a := by revert h; decide
theorem inbO (o : Dev nD) : ∀ a, (![512 * o.val, 0] : Fin 2 → ℕ) a + S512x1024.size a ≤ S4096x1024.size a := by revert o; decide
theorem inbOH (o : Dev nD) (h : Fin 2) :
    ∀ a, (![512 * o.val + 256 * h.val, 0] : Fin 2 → ℕ) a + S256x1024.size a ≤ S4096x1024.size a := by revert o h; decide

/-- Quarter `q` and half `h` of a block of 512 rows. -/
abbrev qR (q : Fin 4) : Rect S512x4096 := Rect.unit (s := S512x4096) ![128 * q.val, 0] S128x4096.size (inbQ q)
abbrev hR (h : Fin 2) : Rect S512x4096 := Rect.unit (s := S512x4096) ![256 * h.val, 0] S256x4096.size (inbH h)
/-- The 512 rows of the result of device `o`'s block, and its halves. -/
abbrev oR (o : Dev nD) : Rect S4096x1024 := Rect.unit (s := S4096x1024) ![512 * o.val, 0] S512x1024.size (inbO o)
abbrev ohR (o : Dev nD) (h : Fin 2) : Rect S4096x1024 :=
  Rect.unit (s := S4096x1024) ![512 * o.val + 256 * h.val, 0] S256x1024.size (inbOH o h)

/-- Membership in a run of full rows is a condition on the row. -/
theorem mem_rows {n0 n1 : ℕ} {lo k : ℕ} {inb} {i : (⟨2, ![n0, n1]⟩ : Shape).Idx} :
    i ∈ (Rect.unit (s := ⟨2, ![n0, n1]⟩) ![lo, 0] ![k, n1] inb).set ↔ lo ≤ (i 0).val ∧ (i 0).val < lo + k := by
  rw [Rect.mem_set_unit]
  constructor
  · intro h; exact h 0
  · intro h a
    match a with
    | ⟨0, _⟩ => exact h
    | ⟨1, _⟩ => exact ⟨Nat.zero_le _, by have := (i 1).isLt; simpa using this⟩

theorem halves_disjoint : Disjoint (hR 0).set (hR 1).set := by
  rw [Finset.disjoint_left]; intro i h h'
  have h1 := (mem_rows (n0 := 512) (n1 := 4096)).mp h
  have h2 := (mem_rows (n0 := 512) (n1 := 4096)).mp h'
  simp at h1 h2; omega
theorem halves_union : (hR 0).set ∪ (hR 1).set = Finset.univ := by
  ext i
  have hi : (i 0).val < 512 := (i 0).isLt
  have h1 := (mem_rows (n0 := 512) (n1 := 4096) (lo := 256 * (0 : Fin 2).val) (k := 256) (inb := inbH 0) (i := i))
  have h2 := (mem_rows (n0 := 512) (n1 := 4096) (lo := 256 * (1 : Fin 2).val) (k := 256) (inb := inbH 1) (i := i))
  simp only [Finset.mem_univ, iff_true, Finset.mem_union]
  rw [h1, h2]; simp; omega

/-- A half of 512 rows cut into two quarters. -/
theorem quarters_disjoint (h : Fin 2) (q q' : Fin 4) (hq : q.val = 2 * h.val) (hq' : q'.val = 2 * h.val + 1) :
    Disjoint (qR q).set (qR q').set := by
  rw [Finset.disjoint_left]; intro i m m'
  have h1 := (mem_rows (n0 := 512) (n1 := 4096)).mp m
  have h2 := (mem_rows (n0 := 512) (n1 := 4096)).mp m'
  rw [hq] at h1; rw [hq'] at h2; omega
theorem quarters_union (h : Fin 2) (q q' : Fin 4) (hq : q.val = 2 * h.val) (hq' : q'.val = 2 * h.val + 1) :
    (qR q).set ∪ (qR q').set = (hR h).set := by
  ext i
  rw [Finset.mem_union, mem_rows (n0 := 512) (n1 := 4096), mem_rows (n0 := 512) (n1 := 4096), mem_rows (n0 := 512) (n1 := 4096), hq, hq']
  omega

/-- The blocks of rows of the result: disjoint, all of it, and each two halves. -/
theorem blocks_disjoint (o o' : Dev nD) (h : o ≠ o') : Disjoint (oR o).set (oR o').set := by
  rw [Finset.disjoint_left]; intro i m m'
  have h1 := (mem_rows (n0 := 4096) (n1 := 1024)).mp m
  have h2 := (mem_rows (n0 := 4096) (n1 := 1024)).mp m'
  exact h (Fin.ext (by omega))
theorem blocks_union : Finset.univ.biUnion (fun o : Dev nD => (oR o).set) = Finset.univ := by
  ext i
  have hi : (i 0).val < 4096 := (i 0).isLt
  simp only [Finset.mem_biUnion, Finset.mem_univ, true_and, iff_true]
  have ho : (i 0).val / 512 < 8 := by omega
  refine ⟨⟨(i 0).val / 512, ho⟩, (mem_rows (n0 := 4096) (n1 := 1024)).mpr ?_⟩
  dsimp only; omega
theorem blockHalves_disjoint (o : Dev nD) : Disjoint (ohR o 0).set (ohR o 1).set := by
  rw [Finset.disjoint_left]; intro i m m'
  have h1 := (mem_rows (n0 := 4096) (n1 := 1024)).mp m
  have h2 := (mem_rows (n0 := 4096) (n1 := 1024)).mp m'
  simp only [Fin.isValue, Fin.val_zero, Fin.val_one] at h1 h2; omega
theorem blockHalves_union (o : Dev nD) : (ohR o 0).set ∪ (ohR o 1).set = (oR o).set := by
  ext i
  rw [Finset.mem_union, mem_rows (n0 := 4096) (n1 := 1024), mem_rows (n0 := 4096) (n1 := 1024), mem_rows (n0 := 4096) (n1 := 1024)]
  simp only [Fin.isValue, Fin.val_zero, Fin.val_one]; omega

/-- Half `h` of 512 rows. -/
def halfOf {V : Type} (h : Fin 2) (X : S512x4096.Idx → V) : S256x4096.Idx → V := fun j => X ((hR h).emb j)

/-! ## The transfers -/

set_option backward.proofsInPublic true in
def kA (q : Fin 4) : Fin 26 := ⟨q.val, by omega⟩
set_option backward.proofsInPublic true in
def kB (q : Fin 4) : Fin 26 := ⟨4 + q.val, by omega⟩
set_option backward.proofsInPublic true in
def kC (q : Fin 4) : Fin 26 := ⟨8 + q.val, by omega⟩
set_option backward.proofsInPublic true in
def kA2 (q : Fin 4) : Fin 26 := ⟨12 + q.val, by omega⟩
set_option backward.proofsInPublic true in
def kB2 (q : Fin 4) : Fin 26 := ⟨16 + q.val, by omega⟩
set_option backward.proofsInPublic true in
def kC2 (q : Fin 4) : Fin 26 := ⟨20 + q.val, by omega⟩

/-- Whether a transfer's target is its sender's right (0) or left (1) neighbour or the device across (2), at sender `c`. -/
def side (c : Dev nD) (k : Fin 26) : Fin 3 :=
  if k.val < 4 then 0 else if k.val < 8 then 1 else if k.val < 12 then 2 else if k.val < 16 then 0 else if k.val < 20 then 1
  else if k.val < 25 then 2 else if even c then 1 else 0

/-- The three devices `c` exchanges with: the right and left neighbours and the device across. -/
def nbr (c : Dev nD) (e : Fin 3) : Dev nD := if e = 0 then right c else if e = 1 then left c else partner c
/-- The device that has `c` for its neighbour `e`. -/
def giv (c : Dev nD) (e : Fin 3) : Dev nD := if e = 0 then left c else if e = 1 then right c else partner c
theorem nbr_giv (c : Dev nD) (e : Fin 3) : nbr (giv c e) e = c := by revert c e; decide
theorem giv_nbr (c : Dev nD) (e : Fin 3) : giv (nbr c e) e = c := by revert c e; decide

/-- Transfer `k`'s target on sender `c`, and its sender on target `d`. -/
def tgt (c : Dev nD) (k : Fin 26) : Dev nD := nbr c (side c k)
def back (d : Dev nD) (k : Fin 26) : Fin 3 := if k.val = 25 then (if even d then 0 else 1) else side d k
def frm (d : Dev nD) (k : Fin 26) : Dev nD := giv d (back d k)
theorem frm_tgt (c : Dev nD) (k : Fin 26) : frm (tgt c k) k = c := by revert c k; decide +kernel
theorem tgt_frm (c : Dev nD) (k : Fin 26) : tgt (frm c k) k = c := by revert c k; decide +kernel
theorem side_giv (d : Dev nD) (k : Fin 26) (e : Fin 3) : side (giv d e) k = e ↔ back d k = e := by revert d k e; decide +kernel

/-- Whose block transfer `k` of sender `c` carries (a part of). -/
def org (c : Dev nD) (k : Fin 26) : Dev nD :=
  if k.val < 12 then c else if k.val < 16 then left c else if k.val < 20 then right c
  else if k.val < 24 then (if even c then left c else right c)
  else if k.val = 24 then (if even c then left (left c) else right (right c)) else (if even c then right (right c) else left (left c))

/-- The buffer transfer `k` of sender `c` reads, the rows of it, and the share of them it takes. -/
def srcM (c : Dev nD) (k : Fin 26) : M512 :=
  if k.val < 12 then own8M else if k.val < 16 then l1M else if k.val < 20 then r1M else if k.val < 24 then (if even c then l1M else r1M)
  else if k.val = 24 then (if even c then l2M else r2M) else (if even c then r2M else l2M)
def rowsOf (k : Fin 26) : Finset S512x4096.Idx :=
  if k.val < 24 then (qR (Fin.ofNat 4 k.val)).set else (hR (Fin.ofNat 2 k.val)).set
def srcQ (k : Fin 26) : PosShare TreeShare :=
  if k.val < 4 then fullShare.left.left else if k.val < 8 then fullShare.left.right else if k.val < 12 then fullShare.right.left
  else if k.val < 20 then fullShare.left.left else if k.val < 24 then fullShare.left.right else fullShare.left
/-- The buffer of 512 rows transfer `k < 24` writes. -/
def dstM (k : Fin 26) : M512 :=
  if k.val < 4 then l1M else if k.val < 8 then r1M else if k.val < 12 then c1M else if k.val < 16 then l2M else if k.val < 20 then r2M else c2M

section
variable (X : Dev nD → S512x4096.Idx → Elt F .fp8e4m3)

/-- What transfer `k` of sender `c` reads, of the blocks `X`: handed in with the transfer, handed back by its send semaphore. -/
def sendPay (c : Dev nD) (k : Fin 26) : sProp 𝕄 := hold c (srcM c k) (rowsOf k) (srcQ k) (X (org c k))

/-- What transfer `k` leaves on its target `d`. -/
def recvPay (d : Dev nD) (k : Fin 26) : sProp 𝕄 :=
  if k.val < 24 then hold d (dstM k) (rowsOf k) fullShare (X (org (frm d k) k))
  else if k.val = 24 then hold d c3M Finset.univ fullShare (halfOf 0 (X (org (frm d k) k)))
  else hold d r3M Finset.univ fullShare (halfOf 1 (X (org (frm d k) k)))
end

/-- Where transfer `k` writes on its target `d`. -/
def slot (d : Dev nD) (k : Fin 26) : sProp 𝕄 :=
  if k.val < 24 then room d (dstM k) (rowsOf k) else if k.val = 24 then room d c3M Finset.univ else room d r3M Finset.univ

section
variable (X : Dev nD → S512x4096.Idx → Elt F .fp8e4m3)
instance sendPay_storable (c : Dev nD) (k : Fin 26) : BI.Storable (upEmb : UEmb _ 𝕄) (sendPay X c k) := by unfold sendPay; infer_instance
instance recvPay_storable (c : Dev nD) (k : Fin 26) : BI.Storable (upEmb : UEmb _ 𝕄) (recvPay X c k) := by
  unfold recvPay; (repeat' split) <;> infer_instance
end
instance slot_storable (c : Dev nD) (k : Fin 26) : BI.Storable (upEmb : UEmb _ 𝕄) (slot (F := F) c k) := by
  unfold slot; (repeat' split) <;> infer_instance

end Cert.RingProof
-- ==== Proof.Schedule.lean ====
/-
# The protocol: every semaphore's duties, amounts and what each hands over

* The barrier semaphore of device `c`: three units, from its right and left neighbours and from the device across. Each
  hands `c` the places of ITS memory that `c` will write (`slot`). `c` waits for all three before its first transfer.
* Send semaphore `k` of device `c`: the bytes of transfer `k`, when it has been read; hands back what it read (`sendPay`).
* Receive semaphore `k` of device `d`: the bytes of transfer `k` of its sender `frm d k`; hands over what it wrote (`recvPay`).

A core only waits while everything it still owes lies at a higher level: barrier 1, first-hop receives 2, second-hop 3,
third-hop 4; send and staging semaphores 0.
-/
module

public import proofs.«01_k».proof.Proof.Pieces

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores -/

/-- The runtime's barrier semaphore; send semaphore `k`; receive semaphore `k`. -/
abbrev barS : Sem sig := (SemArray.scalar (sig.barrier 0 rfl) : Sems sig S_).sem
set_option backward.proofsInPublic true in
def dS (k : Fin 26) : DmaSem sig := ⟨5 + k.val, Nat.lt_of_lt_of_le (Nat.add_lt_add_left k.isLt 5) (by decide)⟩
set_option backward.proofsInPublic true in
def dR (k : Fin 26) : DmaSem sig := ⟨31 + k.val, Nat.lt_of_lt_of_le (Nat.add_lt_add_left k.isLt 31) (by decide)⟩

abbrev barCell (c : Dev nD) : GSem nD τ sig := ((c : Thread nD τ), .reg barS)
abbrev sendCell (c : Dev nD) (k : Fin 26) : GSem nD τ sig := ((c : Thread nD τ), .dma (dS k))
abbrev recvCell (c : Dev nD) (k : Fin 26) : GSem nD τ sig := ((c : Thread nD τ), .dma (dR k))

/-- What a semaphore is for. -/
inductive Role where
  | other | barrier | send (k : Fin 26) | recv (k : Fin 26)
  deriving DecidableEq

set_option backward.proofsInPublic true in
def role : SemLoc sig → Role
  | .reg s => if s = barS then .barrier else .other
  | .dma s =>
    if h : 5 ≤ s.val ∧ s.val < 31 then .send ⟨s.val - 5, by omega⟩
    else if h' : 31 ≤ s.val ∧ s.val < 57 then .recv ⟨s.val - 31, by omega⟩ else .other

theorem role_bar : role (.reg barS) = .barrier := by decide
theorem role_send (k : Fin 26) : role (.dma (dS k)) = .send k := by revert k; decide
theorem role_recv (k : Fin 26) : role (.dma (dR k)) = .recv k := by revert k; decide

/-! ## Amounts -/

/-- A quarter's credit and a half's. -/
abbrev NQ : ℕ := (l1M.slice (qR 0) (fun _ => rfl)).view.dmaCredit
abbrev NH : ℕ := c3M.view.dmaCredit
def Nk (k : Fin 26) : ℕ := if k.val < 24 then NQ else NH
theorem NQ_pos : 0 < NQ := View.dmaCredit_pos _ (by decide)
theorem NH_pos : 0 < NH := View.dmaCredit_pos _ (by decide)
theorem Nk_pos (k : Fin 26) : 0 < Nk k := by unfold Nk; split; exacts [NQ_pos, NH_pos]

/-! ## The schedule -/

/-- What the signal of `c`'s neighbour `e` hands `c`: the places there that `c`'s transfers to it write. -/
def barPay (c : Dev nD) (e : Fin 3) : sProp 𝕄 := bigSep Finset.univ fun k => if side c k = e then slot (nbr c e) k else iprop(emp)

instance barPay_storable (c : Dev nD) (e : Fin 3) : BI.Storable (upEmb : UEmb _ 𝕄) (barPay (F := F) c e) := by
  have : ∀ k, BI.Storable (upEmb : UEmb _ 𝕄) (if side c k = e then slot (F := F) (nbr c e) k else iprop(emp)) := fun k => by
    split <;> infer_instance
  unfold barPay; infer_instance

variable (X : Dev nD → S512x4096.Idx → Elt F .fp8e4m3)

/-- One round, round 0: a barrier semaphore's three duties of a unit each; a transfer semaphore's one duty of the
    transfer's credit. -/
def Rd : Rounds.Schedule (GSem nD τ sig) (Fin 3) 𝕄 where
  duties g r := if r = 0 ∧ g.1.2 = .tc then
      (match role g.2 with | .other => ∅ | .barrier => Finset.univ | .send _ => {0} | .recv _ => {0}) else ∅
  unitless _ := False
  amount g _ _ := match role g.2 with | .other => 1 | .barrier => 1 | .send k => Nk k | .recv k => Nk k
  payload g _ d := match role g.2 with
    | .other => iprop(emp) | .barrier => barPay g.1.1 d | .send k => sendPay X g.1.1 k | .recv k => recvPay X g.1.1 k
  amount_pos g _ _ _ := by
    cases role g.2
    exacts [Nat.one_pos, Nat.one_pos, Nk_pos _, Nk_pos _]

instance Rd_payload_storable (g : GSem nD τ sig) (r : ℕ) (d : Fin 3) :
    BI.Storable (upEmb : UEmb _ 𝕄) ((Rd (F := F) X).payload g r d) := by
  show BI.Storable upEmb (match role g.2 with
    | .other => iprop(emp) | .barrier => barPay g.1.1 d | .send k => sendPay X g.1.1 k | .recv k => recvPay X g.1.1 k)
  cases role g.2 <;> dsimp only <;> infer_instance

section
variable (c : Dev nD) (k : Fin 26)

theorem duties_bar : (Rd X).duties (barCell c) 0 = Finset.univ := by
  dsimp only [Rd]; rw [if_pos ⟨rfl, rfl⟩, role_bar]
theorem duties_send : (Rd X).duties (sendCell c k) 0 = {0} := by
  dsimp only [Rd]; rw [if_pos ⟨rfl, rfl⟩, role_send]
theorem duties_recv : (Rd X).duties (recvCell c k) 0 = {0} := by
  dsimp only [Rd]; rw [if_pos ⟨rfl, rfl⟩, role_recv]
theorem duties_later (g : GSem nD τ sig) : ∀ r, 1 ≤ r → (Rd X).duties g r = ∅ :=
  fun r hr => by dsimp only [Rd]; rw [if_neg fun h => by omega]

theorem amount_bar (d : Fin 3) : (Rd X).amount (barCell c) 0 d = 1 := by dsimp only [Rd]; rw [role_bar]
theorem amount_send (d : Fin 3) : (Rd X).amount (sendCell c k) 0 d = Nk k := by dsimp only [Rd]; rw [role_send]
theorem amount_recv (d : Fin 3) : (Rd X).amount (recvCell c k) 0 d = Nk k := by dsimp only [Rd]; rw [role_recv]

theorem expect_bar : (Rd X).expect (barCell c) 0 = 3 := by
  unfold Schedule.expect Schedule.amountOf
  rw [duties_bar, Finset.sum_congr rfl fun d _ => amount_bar X c d]; rfl
theorem expect_send : (Rd X).expect (sendCell c k) 0 = Nk k := by
  unfold Schedule.expect Schedule.amountOf; rw [duties_send, Finset.sum_singleton, amount_send]
theorem expect_recv : (Rd X).expect (recvCell c k) 0 = Nk k := by
  unfold Schedule.expect Schedule.amountOf; rw [duties_recv, Finset.sum_singleton, amount_recv]

theorem payload_bar (d : Fin 3) : (Rd X).payload (barCell c) 0 d = barPay c d := by dsimp only [Rd]; rw [role_bar]
theorem payload_send (d : Fin 3) : (Rd X).payload (sendCell c k) 0 d = sendPay X c k := by dsimp only [Rd]; rw [role_send]
theorem payload_recv (d : Fin 3) : (Rd X).payload (recvCell c k) 0 d = recvPay X c k := by dsimp only [Rd]; rw [role_recv]

/-- All that a semaphore's round hands over. -/
theorem rest_send : bigSep ((Rd X).duties (sendCell c k) 0 \ ∅) (fun d => (Rd X).payload (sendCell c k) 0 d) = sendPay X c k := by
  rw [Finset.sdiff_empty, duties_send, bigSep_singleton, payload_send]
theorem rest_recv : bigSep ((Rd X).duties (recvCell c k) 0 \ ∅) (fun d => (Rd X).payload (recvCell c k) 0 d) = recvPay X c k := by
  rw [Finset.sdiff_empty, duties_recv, bigSep_singleton, payload_recv]

end

/-- Summands that are nothing except at one index are that one. -/
theorem bigSep_pick_one {M : Type} [URA M] {n : ℕ} (i : Fin n) (p : Fin n → Prop) [DecidablePred p] (h : ∀ j, p j ↔ i = j) (P : Fin n → sProp M) :
    (bigSep Finset.univ fun j => if p j then P j else iprop(emp)) = P i := by
  have e : (bigSep Finset.univ fun j => if p j then P j else iprop(emp))
      = iprop((if p i then P i else iprop(emp)) ∗ bigSep (Finset.univ.erase i) fun j => if p j then P j else iprop(emp)) := bigSep_univ_split i
  rw [e, if_pos ((h i).mpr rfl), bigSep_congr (s := Finset.univ.erase i) (Ψ := fun _ => iprop(emp))
    fun j hj => if_neg fun hp => Finset.ne_of_mem_erase hj ((h j).mp hp).symm,
    show (bigSep (Finset.univ.erase i) fun _ => iprop(emp)) = (iprop(emp) : sProp M) from bigSep_emp_const _]
  exact equiv_iff.mp sep_emp

/-- The three signals together hand `c` every place its transfers write. -/
theorem rest_bar (c : Dev nD) :
    bigSep ((Rd X).duties (barCell c) 0 \ ∅) (fun d => (Rd X).payload (barCell c) 0 d) = bigSep Finset.univ fun k => slot (tgt c k) k := by
  rw [Finset.sdiff_empty, duties_bar, bigSep_congr fun d _ => payload_bar X c d]
  unfold barPay
  rw [bigSep_univ_comm]
  exact bigSep_congr fun k _ => bigSep_pick_one (side c k) (fun e => side c k = e) (fun _ => Iff.rfl) fun e => slot (nbr c e) k

/-- A device's own places, dealt to the three that write them. -/
theorem slots_deal (c : Dev nD) :
    (bigSep Finset.univ fun k => slot (F := F) c k) = iprop(barPay (left c) 0 ∗ barPay (right c) 1 ∗ barPay (partner c) 2) := by
  have h : (bigSep Finset.univ fun k => slot (F := F) c k) = bigSep Finset.univ fun e : Fin 3 => barPay (F := F) (giv c e) e := by
    unfold barPay
    rw [bigSep_univ_comm]
    refine bigSep_congr fun k _ => ?_
    simp only [nbr_giv]
    exact (bigSep_pick_one (back c k) (fun e => side (giv c e) k = e) (fun e => side_giv c k e) fun _ => slot c k).symm
  rw [h]
  exact bigSep_univ_eq_bigSepL [0, 1, 2] (by decide) (by decide) _

/-! ## Levels -/

def L (g : GSem nD τ sig) : Finset Unit := if g.1.2 = .tc then {()} else ∅
def lvR (k : Fin 26) : ℕ := if k.val < 12 then 2 else if k.val < 24 then 3 else 4
def lv (g : GSem nD τ sig) (_ : Unit) : ℕ := match role g.2 with | .other => 0 | .barrier => 1 | .send _ => 0 | .recv k => lvR k

theorem L_of_ne (g : GSem nD τ sig) (h : g.1.2 ≠ .tc) : L g = ∅ := if_neg h
theorem L_tc (c : Dev nD) (sm : SemLoc sig) : L ((c : Thread nD τ), sm) = {()} := if_pos rfl

end Cert.RingProof
-- ==== Proof.Steps.lean ====
/-
# The state of the exchange on one device, and how each transfer and each wait changes it

`Proto X c n r s`: device `c` has started the first `n` of its 26 transfers (in the order `ord c`), waited for the first
`r` of the 26 that come to it (in the order `rord`) and for the first `s` of its own to have been read.
-/
module

public import proofs.«01_k».proof.Proof.Schedule

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Orders -/

/-- One on an even place, nothing on an odd one. -/
def ev (c : Dev nD) : ℕ := if even c then 1 else 0

/-- The place of transfer `k` in the order device `c` starts its transfers. -/
def ord (c : Dev nD) (k : Fin 26) : ℕ :=
  if k.val < 4 then 3 * k.val else if k.val < 8 then 3 * (k.val - 4) + 1 else if k.val < 12 then 3 * (k.val - 8) + 2
  else if k.val < 16 then 12 + 3 * (k.val - 12) else if k.val < 20 then 13 + 3 * (k.val - 16) + ev c
  else if k.val < 24 then 14 + 3 * (k.val - 20) - ev c else k.val

/-- The place of transfer `k` in the order a device waits for what comes to it. -/
def rord (k : Fin 26) : ℕ :=
  if k.val < 4 then 2 * k.val else if k.val < 8 then 2 * (k.val - 4) + 1 else if k.val < 12 then k.val
  else if k.val < 14 then k.val else if k.val < 16 then k.val + 2 else if k.val < 18 then k.val - 2 else k.val

theorem ord_inj (c : Dev nD) (k k' : Fin 26) (h : ord c k = ord c k') : k = k' := by revert c k k'; decide +kernel
theorem ord_lt (c : Dev nD) (k : Fin 26) : ord c k < 26 := by revert c k; decide +kernel
theorem rord_inj (k k' : Fin 26) (h : rord k = rord k') : k = k' := by revert k k'; decide +kernel
theorem rord_lt (k : Fin 26) : rord k < 26 := by revert k; decide +kernel

/-! ## The invariants -/

set_option backward.proofsInPublic true in
/-- The kernel's own semaphores, and all of the protocol's: the barrier first, then the own ones. -/
def osem (i : Fin 52) : SemLoc sig := .dma ⟨5 + i.val, Nat.lt_of_lt_of_le (Nat.add_lt_add_left i.isLt 5) (by decide)⟩
set_option backward.proofsInPublic true in
def csem (i : Fin 53) : SemLoc sig :=
  if h : i.val = 0 then .reg barS else osem ⟨i.val - 1, by omega⟩
abbrev kcell (ck : Dev nD × Fin 53) : GSem nD τ sig := ((ck.1 : Thread nD τ), csem ck.2)

set_option backward.proofsInPublic true in
def iS (k : Fin 26) : Fin 53 := ⟨k.val + 1, by omega⟩
set_option backward.proofsInPublic true in
def iR (k : Fin 26) : Fin 53 := ⟨k.val + 27, by omega⟩
theorem csem_bar : csem 0 = .reg barS := rfl
theorem csem_send (k : Fin 26) : csem (iS k) = .dma (dS k) := by revert k; decide
theorem csem_recv (k : Fin 26) : csem (iR k) = .dma (dR k) := by revert k; decide

variable (X : Dev nD → S512x4096.Idx → Elt F .fp8e4m3) (K : Dev nD × Fin 53 → ℕ)

/-- Every semaphore of the protocol is under its invariant and at round 0. -/
def records : sProp 𝕄 :=
  bigSep Finset.univ fun ck => iprop(cellInv ER (Rd X) (K ck) (kcell ck) ∗ reached ER (kcell ck) 0)

instance records_persistent : BI.Persistent (records X K) := by unfold records; infer_instance

theorem records_bar (c : Dev nD) : records X K ⊢ iprop(cellInv ER (Rd X) (K (c, 0)) (barCell c) ∗ reached ER (barCell c) 0) :=
  bigSep_elim (i := (c, 0)) (Finset.mem_univ _)
theorem records_send (c : Dev nD) (k : Fin 26) :
    records X K ⊢ iprop(cellInv ER (Rd X) (K (c, iS k)) (sendCell c k) ∗ reached ER (sendCell c k) 0) := by
  unfold sendCell; rw [← csem_send k]; exact bigSep_elim (i := (c, iS k)) (Finset.mem_univ _)
theorem records_recv (c : Dev nD) (k : Fin 26) :
    records X K ⊢ iprop(cellInv ER (Rd X) (K (c, iR k)) (recvCell c k) ∗ reached ER (recvCell c k) 0) := by
  unfold recvCell; rw [← csem_recv k]; exact bigSep_elim (i := (c, iR k)) (Finset.mem_univ _)

/-! ## The state -/

/-- What device `c` still owes: the credit of every transfer not yet started, at its target. -/
def owed (c : Dev nD) (n : ℕ) : CellTallies nD τ sig Unit :=
  ∑ k : Fin 26, if n ≤ ord c k then tallyAt (recvCell (tgt c k) k) () (Nk k) else 0

/-- Transfer `k` of `c` before it starts: both duties' tokens, the place it writes, and the position at its send semaphore. -/
def armed (c : Dev nD) (k : Fin 26) : sProp 𝕄 :=
  iprop(dutyTok ER (sendCell c k) 0 0 ∗ dutyTok ER (recvCell (tgt c k) k) 0 0 ∗ slot (tgt c k) k ∗ atPos ER (sendCell c k) 0 ∅ 0)

/-- Transfer `k` of `c` seen from `c`: not started; started; read, and its semaphore closed. -/
def sendSt (c : Dev nD) (n s : ℕ) (k : Fin 26) : sProp 𝕄 :=
  if k.val < s then iprop(semVal (sendCell c k) 0 ∗ sendPay X c k)
  else if n ≤ ord c k then armed c k
  else iprop(cred (tallyAt (sendCell c k) () (Nk k)) ∗ atPos ER (sendCell c k) 0 ∅ 0)

/-- Transfer `k` into `c` seen from `c`: not waited for; waited for, and its semaphore closed. -/
def recvSt (c : Dev nD) (r : ℕ) (k : Fin 26) : sProp 𝕄 :=
  if rord k < r then semVal (recvCell c k) 0
  else iprop(cred (tallyAt (recvCell c k) () (Nk k)) ∗ atPos ER (recvCell c k) 0 ∅ 0)

/-- The state of the exchange on device `c`. -/
def Proto (c : Dev nD) (n r s : ℕ) : sProp 𝕄 :=
  iprop((bigSep Finset.univ fun k => sendSt X c n s k) ∗ (bigSep Finset.univ fun k => recvSt (F := F) c r k)
    ∗ ∃ W, owes (c : Thread nD τ) (owed c n) W)

theorem owed_step (c : Dev nD) (k : Fin 26) (n : ℕ) (hn : ord c k = n) :
    owed c n = owed c (n + 1) + tallyAt (recvCell (tgt c k) k) () (Nk k) := by
  unfold owed
  rw [← Finset.sum_erase_add _ _ (Finset.mem_univ k),
    ← Finset.sum_erase_add _ (fun k => if n + 1 ≤ ord c k then tallyAt (recvCell (tgt c k) k) () (Nk k) else 0) (Finset.mem_univ k),
    if_pos (by omega), if_neg (by omega), add_zero]
  congr 1
  refine Finset.sum_congr rfl fun j hj => ?_
  have hne : ord c j ≠ n := fun h => Finset.ne_of_mem_erase hj (ord_inj c j k (h.trans hn.symm))
  by_cases h : n ≤ ord c j
  · rw [if_pos h, if_pos (by omega)]
  · rw [if_neg h, if_neg (by omega)]

theorem owed_end (c : Dev nD) : owed c 26 = 0 :=
  Finset.sum_eq_zero fun k _ => if_neg (by have := ord_lt c k; omega)

/-- What is owed is a receive credit of a transfer not yet started. -/
theorem owed_pos {c : Dev nD} {n : ℕ} {g : GSem nD τ sig} {u : Unit} (h : 0 < owed c n g u) :
    ∃ k, n ≤ ord c k ∧ g = recvCell (tgt c k) k := by
  by_contra hn
  have h0 : owed c n g u = 0 := by
    unfold owed
    rw [Finset.sum_apply, Finsupp.finset_sum_apply]
    refine Finset.sum_eq_zero fun k _ => ?_
    split
    · next hk =>
      rw [tallyAt_apply]
      exact if_neg fun h' => hn ⟨k, hk, h'.1⟩
    · rfl
  omega

/-- A wait at a semaphore below every transfer not yet started is allowed. -/
theorem mayWait_owed (c : Dev nD) (n : ℕ) (sm : SemLoc sig) (hlev : ∀ k', n ≤ ord c k' → lv ((c : Thread nD τ), sm) () < lvR k') :
    (levAts L lv : sProp 𝕄) ⊢ MayWait (c : Thread nD τ) sm () (owed c n) :=
  MayOwe.of_cut (L := L) (lev := lv) (lv ((c : Thread nD τ), sm) ()) (fun p hp => by rw [Finset.mem_singleton.mp hp, L_tc]; exact Finset.mem_singleton_self _)
    (fun g u hg => by obtain ⟨k, -, rfl⟩ := owed_pos hg; exact Finset.mem_singleton_self _)
    (fun p hp => by rw [Finset.mem_singleton.mp hp])
    (fun g u hg => by
      obtain ⟨k, hk, rfl⟩ := owed_pos hg
      have : lv (recvCell (tgt c k) k) u = lvR k := by unfold lv; rw [role_recv]
      rw [this]; exact hlev k hk)

/-! ## One transfer out of the state -/

theorem send_open (c : Dev nD) (k : Fin 26) (n : ℕ) (hn : ord c k = n) :
    (bigSep Finset.univ fun k => sendSt X c n 0 k)
      ⊢ iprop((dutyTok ER (sendCell c k) 0 0 ∗ dutyTok ER (recvCell (tgt c k) k) 0 0 ∗ slot (tgt c k) k ∗ atPos ER (sendCell c k) 0 ∅ 0)
        ∗ ((cred (tallyAt (sendCell c k) () (Nk k)) ∗ atPos ER (sendCell c k) 0 ∅ 0) -∗ bigSep Finset.univ fun k => sendSt X c (n + 1) 0 k)) := by
  have h := bigSep_univ_update (Φ := fun k => sendSt X c n 0 k) (Ψ := fun k => sendSt X c (n + 1) 0 k) k fun j hj => by
    have hne : ord c j ≠ n := fun h => hj (ord_inj c j k (h.trans hn.symm))
    unfold sendSt
    by_cases h : n ≤ ord c j
    · rw [if_neg (Nat.not_lt_zero _), if_neg (Nat.not_lt_zero _), if_pos h, if_pos (by omega)]
    · rw [if_neg (Nat.not_lt_zero _), if_neg (Nat.not_lt_zero _), if_neg h, if_neg (by omega)]
  rw [show sendSt X c n 0 k = armed c k by unfold sendSt; rw [if_neg (Nat.not_lt_zero _), if_pos (by omega)],
    show sendSt X c (n + 1) 0 k = iprop(cred (tallyAt (sendCell c k) () (Nk k)) ∗ atPos ER (sendCell c k) 0 ∅ 0) by
      unfold sendSt; rw [if_neg (Nat.not_lt_zero _), if_neg (by omega)]] at h
  exact h

theorem recv_open (c : Dev nD) (k : Fin 26) (r : ℕ) (hr : rord k = r) :
    (bigSep Finset.univ fun k => recvSt (F := F) c r k)
      ⊢ iprop((cred (tallyAt (recvCell c k) () (Nk k)) ∗ atPos ER (recvCell c k) 0 ∅ 0)
        ∗ (semVal (recvCell c k) 0 -∗ bigSep Finset.univ fun k => recvSt (F := F) c (r + 1) k)) := by
  have h := bigSep_univ_update (Φ := fun k => recvSt (F := F) c r k) (Ψ := fun k => recvSt (F := F) c (r + 1) k) k fun j hj => by
    have hne : rord j ≠ r := fun h => hj (rord_inj j k (h.trans hr.symm))
    unfold recvSt
    by_cases h : rord j < r
    · rw [if_pos h, if_pos (by omega)]
    · rw [if_neg h, if_neg (by omega)]
  rw [show recvSt (F := F) c r k = iprop(cred (tallyAt (recvCell c k) () (Nk k)) ∗ atPos ER (recvCell c k) 0 ∅ 0) by
      unfold recvSt; rw [if_neg (by omega)],
    show recvSt (F := F) c (r + 1) k = semVal (recvCell c k) 0 by unfold recvSt; rw [if_pos (by omega)]] at h
  exact h

theorem drain_open (c : Dev nD) (k : Fin 26) (s : ℕ) (hs : k.val = s) :
    (bigSep Finset.univ fun k => sendSt X c 26 s k)
      ⊢ iprop((cred (tallyAt (sendCell c k) () (Nk k)) ∗ atPos ER (sendCell c k) 0 ∅ 0)
        ∗ ((semVal (sendCell c k) 0 ∗ sendPay X c k) -∗ bigSep Finset.univ fun k => sendSt X c 26 (s + 1) k)) := by
  have h := bigSep_univ_update (Φ := fun k => sendSt X c 26 s k) (Ψ := fun k => sendSt X c 26 (s + 1) k) k fun j hj => by
    have hne : j.val ≠ s := fun h => hj (Fin.ext (h.trans hs.symm))
    unfold sendSt
    by_cases h : j.val < s
    · rw [if_pos h, if_pos (by omega)]
    · rw [if_neg h, if_neg (by omega)]
  rw [show sendSt X c 26 s k = iprop(cred (tallyAt (sendCell c k) () (Nk k)) ∗ atPos ER (sendCell c k) 0 ∅ 0) by
      unfold sendSt; rw [if_neg (by omega), if_neg (by have := ord_lt c k; omega)],
    show sendSt X c 26 (s + 1) k = iprop(semVal (sendCell c k) 0 ∗ sendPay X c k) by unfold sendSt; rw [if_pos (by omega)]] at h
  exact h

/-! ## The steps -/

/-- Any two devices' cores are connected. -/
theorem routes_all (c c' : Dev nD) : τ.routes (c : Thread nD τ) (c' : Thread nD τ) = true := by routes

/-- A transfer at two semaphores under schedule `R`, one duty of `N` at each. -/
theorem send_gen (R : Rounds.Schedule (GSem nD τ sig) (Fin 3) (MT nD τ sig Unit (Elt F) ℕ UU ℕ)) [∀ g r d, BI.Storable (upEmb : UEmb _ 𝕄) (R.payload g r d)]
    (c c' : Dev nD) {s : Shape} {src dst : Memref sig .tc .vmem s .fp8e4m3} {sS sR : DmaSem sig}
    {hsc : (dst : Memref sig (Dev.tc c' : Thread nD τ).2.kind .vmem s .fp8e4m3).view.ref.isScScratch = false}
    {hsrc : src.view.WordExact} {hdst : dst.view.WordExact}
    {hsem : DmaTarget.Typed .vmem (.dma sR) (.remote (Dev.tc c' : Thread nD τ) dst (.dma sS) hsc)}
    {q : PosShare TreeShare} (fs : Buf (Elt F) (src.view.loc (c : Thread nD τ))) (fd : Buf (Elt F) (dst.view.loc (c' : Thread nD τ)))
    (κ₁ κ₂ N : ℕ) (O O' : CellTallies nD τ sig Unit)
    (h1 : (0 : Fin 3) ∈ R.duties ((c : Thread nD τ), .dma sS) 0) (h2 : (0 : Fin 3) ∈ R.duties ((c' : Thread nD τ), .dma sR) 0)
    (a1 : R.amount ((c : Thread nD τ), .dma sS) 0 0 = N) (a2 : R.amount ((c' : Thread nD τ), .dma sR) 0 0 = N)
    (hO : O = O' + tallyAt ((c' : Thread nD τ), .dma sR) () N)
    (p1 : (src.view.loc (c : Thread nD τ) ↦[src.view.set]{q} fs) ⊢ R.payload ((c : Thread nD τ), .dma sS) 0 0)
    (p2 : (dst.view.loc (c' : Thread nD τ) ↦[dst.view.set]{fullShare}
      dst.view.write (Elt F) fd (src.view.read (Elt F) fs) Finset.univ : sProp 𝕄) ⊢ R.payload ((c' : Thread nD τ), .dma sR) 0 0)
    (hN : dst.view.amount (.dma sR) = N) (W : Waits sig Unit)
    {α : Type} {Q : α → sProp 𝕄} {kk : PUnit → Prog (TpuEff nD τ sig (Elt F) Λ₀ .tc) α} :
    iprop(cellInv ER R κ₁ ((c : Thread nD τ), .dma sS) ∗ cellInv ER R κ₂ ((c' : Thread nD τ), .dma sR)
        ∗ (src.view.loc (c : Thread nD τ) ↦[src.view.set]{q} fs) ∗ (dst.view.loc (c' : Thread nD τ) ↦[dst.view.set]{fullShare} fd)
        ∗ owes (c : Thread nD τ) O W
        ∗ dutyTok ER ((c : Thread nD τ), .dma sS) 0 0 ∗ reached ER ((c : Thread nD τ), .dma sS) 0
        ∗ dutyTok ER ((c' : Thread nD τ), .dma sR) 0 0 ∗ reached ER ((c' : Thread nD τ), .dma sR) 0)
      ⊢ iprop(((cred (tallyAt ((c : Thread nD τ), .dma sS) () N) ∗ owes (c : Thread nD τ) O' W)
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc c' : Thread nD τ) dst (.dma sS) hsc) (.dma sR) hsrc hdst hsem) kk) Q) :=
  Rounds.wp_send_pointsTo (c' := (c' : Thread nD τ)) (sS := .dma sS) (sem := .dma sR) (src := src) (dst := dst) (hsc := hsc) (hsrc := hsrc) (hdst := hdst) (hsem := hsem)
    (k := kk) (Q := Q) (q := q) (fs := fs) (fd := fd) 𝒱₀ ER R (c : Thread nD τ) none (κ₁ := κ₁) (κ₂ := κ₂)
    (r₁ := 0) (r₂ := 0) (d₁ := 0) (d₂ := 0) h1 h2
    () () N hN a1 a2 O' hO (W := W) p1 p2 (hr := routes_all _ _)

/-- Transfer `k` starts: it is handed what it reads, and writes its place on its target. -/
theorem send_step (c c' : Dev nD) (k : Fin 26) (hc' : c' = tgt c k) (n r : ℕ) (hn : ord c k = n) {s : Shape}
    {src dst : Memref sig .tc .vmem s .fp8e4m3} {sS sR : DmaSem sig} (hS : sS = dS k) (hR : sR = dR k)
    {hsc : (dst : Memref sig (Dev.tc c' : Thread nD τ).2.kind .vmem s .fp8e4m3).view.ref.isScScratch = false}
    {hsrc : src.view.WordExact} {hdst : dst.view.WordExact}
    {hsem : DmaTarget.Typed .vmem (.dma sR) (.remote (Dev.tc c' : Thread nD τ) dst (.dma sS) hsc)}
    {q : PosShare TreeShare} {fs : Buf (Elt F) (src.view.loc (c : Thread nD τ))}
    (hsend : sendPay X c k = (src.view.loc (c : Thread nD τ) ↦[src.view.set]{q} fs))
    (hslot : slot c' k ⊢ (iprop(∃ fd : Buf (Elt F) (dst.view.loc (c' : Thread nD τ)), dst.view.loc (c' : Thread nD τ) ↦[dst.view.set]{fullShare} fd) : sProp 𝕄))
    (hland : ∀ fd : Buf (Elt F) (dst.view.loc (c' : Thread nD τ)), (dst.view.loc (c' : Thread nD τ) ↦[dst.view.set]{fullShare}
      dst.view.write (Elt F) fd (src.view.read (Elt F) fs) Finset.univ : sProp 𝕄) ⊢ recvPay X c' k)
    (hN : dst.view.dmaCredit = Nk k)
    {α : Type} {Q : α → sProp 𝕄} {kk : PUnit → Prog (TpuEff nD τ sig (Elt F) Λ₀ .tc) α} :
    iprop(records X K ∗ Proto X c n r 0 ∗ sendPay X c k)
      ⊢ iprop((Proto X c (n + 1) r 0 -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc c' : Thread nD τ) dst (.dma sS) hsc) (.dma sR) hsrc hdst hsem) kk) Q) := by
  subst hc' hS hR
  unfold Proto
  iintro ⟨#HI, ⟨HS, HR, %W, HO⟩, Hsrc⟩ Hk
  ihave Hu := (send_open X c k n hn) $$ HS
  icases Hu with ⟨⟨HtS, HtR, Hslot, Hat⟩, Hclose⟩
  ihave Hd := hslot $$ Hslot
  icases Hd with ⟨%fd, Hd⟩
  ihave H1 := (records_send X K c k) $$ HI
  icases H1 with ⟨#HIs, #Hrs⟩
  ihave H2 := (records_recv X K (tgt c k) k) $$ HI
  icases H2 with ⟨#HIr, #Hrr⟩
  ihave Hsrc := (Entails.of_eq hsend) $$ Hsrc
  have h1 : (0 : Fin 3) ∈ (Rd X).duties (sendCell c k) 0 := by rw [duties_send]; exact Finset.mem_singleton_self _
  have h2 : (0 : Fin 3) ∈ (Rd X).duties (recvCell (tgt c k) k) 0 := by rw [duties_recv]; exact Finset.mem_singleton_self _
  have p1 : (src.view.loc (c : Thread nD τ) ↦[src.view.set]{q} fs) ⊢ (Rd X).payload (sendCell c k) 0 0 := by rw [payload_send, hsend]
  iapply (send_gen (Rd X) c (tgt c k) fs fd (K (c, iS k)) (K (tgt c k, iR k)) (Nk k) (owed c n) (owed c (n + 1)) h1 h2
    (amount_send X c k 0) (amount_recv X (tgt c k) k 0) (owed_step c k n hn) p1 (by rw [payload_recv]; exact hland fd) hN W) $$ [Hsrc Hd HO HtS HtR]
  · isplitr; · iexact HIs
    isplitr; · iexact HIr
    isplitl [Hsrc]; · iexact Hsrc
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [Hclose Hc Hat]
  · iapply Hclose; isplitl [Hc] <;> iassumption
  isplitl [HR]; · iexact HR
  iexists W; iexact HO

/-- Device `c` waits for transfer `k` into it: it comes with what was written. -/
theorem recv_step (c : Dev nD) (k : Fin 26) (n r s : ℕ) (hr : rord k = r) (hlev : ∀ k', n ≤ ord c k' → lvR k < lvR k')
    {sp sp' : Space} {sh sh' : Shape} {e e' : EltTy} {sm : DmaSem sig} (hsm : sm = dR k)
    {src : Memref sig .tc sp' sh' e'} {dst : Memref sig .tc sp sh e} {hsrc : src.view.WordExact} {hdst : dst.view.WordExact}
    (hN : dst.view.dmaCredit = Nk k)
    {α : Type} {Q : α → sProp 𝕄} {kk : PUnit → Prog (TpuEff nD τ sig (Elt F) Λ₀ .tc) α} :
    iprop(records X K ∗ levAts L lv ∗ Proto X c n r s)
      ⊢ iprop(((Proto X c n (r + 1) s ∗ recvPay X c k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  subst hsm
  unfold Proto
  iintro ⟨#HI, #Hlev, HS, HR, %W, HO⟩ Hk
  ihave Hu := (recv_open c k r hr) $$ HR
  icases Hu with ⟨⟨Hc, Hat⟩, Hclose⟩
  ihave H1 := (records_recv X K c k) $$ HI
  icases H1 with ⟨#HIr, #Hrr⟩
  rw [← hN]
  iapply (Rounds.wp_wait_rest_token 𝒱₀ ER (Rd X) (c : Thread nD τ) none (κ := K (c, iR k))
      (wpE_waitDma2_eq 𝒱₀ (c : Thread nD τ) none Set.univ) (Set.mem_univ _) () (O := owed c n) (W := W) (R := 0) (m := 0) (T := ∅)
      (by rw [Nat.zero_add, expect_recv, hN])) $$ [Hc HO Hat]
  · isplitr; · iexact HIr
    isplitl [Hc]; · iexact Hc
    isplitl [HO]; · iexact HO
    isplitr
    · iapply (mayWait_owed c n (.dma (dR k)) fun k' hk' => by
        have : lv ((c : Thread nD τ), .dma (dR k)) () = lvR k := by unfold lv; rw [role_recv]
        rw [this]; exact hlev k' hk')
      iexact Hlev
    iexact Hat
  iintro ⟨HO, Hat, -, Hpay⟩
  imod (Rounds.cell_close ER (Rd X) (Set.mem_univ (K (c, iR k))) (fun h => h) (R := 0 + 1) (duties_later X (recvCell c k))) $$ [Hat] with Hz
  · isplitr; · iexact HIr
    iexact Hat
  iapply Hk
  isplitr [Hpay]
  · isplitl [HS]; · iexact HS
    isplitl [Hclose Hz]
    · iapply Hclose; iexact Hz
    iexists _; iexact HO
  iapply (Entails.of_eq (rest_recv X c k)) $$ Hpay

/-- All transfers started, device `c` waits for its transfer `k` to have been read. -/
theorem drain_step (c : Dev nD) (k : Fin 26) (r s : ℕ) (hs : k.val = s)
    {sp sp' : Space} {sh sh' : Shape} {e e' : EltTy} {sm : DmaSem sig} (hsm : sm = dS k)
    {src : Memref sig .tc sp' sh' e'} {dst : Memref sig .tc sp sh e} {hsrc : src.view.WordExact} {hdst : dst.view.WordExact}
    (hN : dst.view.dmaCredit = Nk k)
    {α : Type} {Q : α → sProp 𝕄} {kk : PUnit → Prog (TpuEff nD τ sig (Elt F) Λ₀ .tc) α} :
    iprop(records X K ∗ Proto X c 26 r s)
      ⊢ iprop((Proto X c 26 r (s + 1) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  subst hsm
  unfold Proto
  iintro ⟨#HI, HS, HR, %W, HO⟩ Hk
  ihave Hu := (drain_open X c k s hs) $$ HS
  icases Hu with ⟨⟨Hc, Hat⟩, Hclose⟩
  ihave H1 := (records_send X K c k) $$ HI
  icases H1 with ⟨#HIs, #Hrs⟩
  rw [← hN, owed_end]
  iapply (Rounds.wp_wait_rest_token 𝒱₀ ER (Rd X) (c : Thread nD τ) none (κ := K (c, iS k))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HIs
    isplitl [Hc]; · iexact Hc
    isplitl [HO]; · iexact HO
    isplitr; · rw [MayWait_zero]; iempintro
    iexact Hat
  iintro ⟨HO, Hat, -, Hpay⟩
  imod (Rounds.cell_close ER (Rd X) (Set.mem_univ (K (c, iS k))) (fun h => h) (R := 0 + 1) (duties_later X (sendCell c k))) $$ [Hat] with Hz
  · isplitr; · iexact HIs
    iexact Hat
  iapply Hk
  isplitl [Hclose Hz Hpay]
  · iapply Hclose
    isplitl [Hz]; · iexact Hz
    iapply (Entails.of_eq (rest_send X c k)) $$ Hpay
  isplitl [HR]; · iexact HR
  iexists _; iexact HO

end Cert.RingProof
-- ==== Proof.Moves.lean ====
/-
# The moves of the exchange at the buffers' pieces

`St X K c n r s` is the state of the exchange with what never changes beside it. Here each kind of statement of the kernel
— a transfer of a quarter or of a half, a wait for one, a conditional transfer — is one step from `St` to `St`.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3) (K : Dev nD × Fin 53 → ℕ)

/-- The state of the exchange, with the invariants and the levels. -/
def St (c : Dev nD) (n r s : ℕ) : sProp 𝕄 := iprop(records X K ∗ levAts L lv ∗ Proto X c n r s)

/-- What is left of `P` where `b` has it sent. -/
def spare (b : Bool) (P : sProp 𝕄) : sProp 𝕄 := if b = true then iprop(emp) else P

/-- Semaphore `k` of the send and of the receive array. -/
theorem sem_send (k : Fin 26) {inb : ∀ a, (![k.val] : Fin 1 → ℕ) a + S1.size a ≤ S26.size a} {h : Shape.Squeezes S1 S_} :
    ((cc0_scratch10.slice (Rect.unit (s := S26) ![k.val] S1.size inb)).squeeze S_ h).sem = dS k := by revert h; revert inb; revert k; decide
theorem sem_recv (k : Fin 26) {inb : ∀ a, (![k.val] : Fin 1 → ℕ) a + S1.size a ≤ S26.size a} {h : Shape.Squeezes S1 S_} :
    ((cc0_scratch11.slice (Rect.unit (s := S26) ![k.val] S1.size inb)).squeeze S_ h).sem = dR k := by revert h; revert inb; revert k; decide

section

/-- A transfer of rows `ρ` of `ms` to rows `ρ` of `md`. -/
theorem send_rows {α : Type} {Q : α → sProp 𝕄} {kk : PUnit → Prog (TpuEff nD τ sig (Elt F) Λ₀ .tc) α}
    {c c' : Dev nD} (k : Fin 26) (hc' : c' = tgt c k) {n r : ℕ} (hn : ord c k = n) (ms md : M512) (ρ : Rect S512x4096)
    (hms : srcM c k = ms) (hmd : dstM k = md) (hρ : rowsOf k = ρ.set) (hk : k.val < 24)
    {hs hd : ∀ a, ρ.stride a = 1} (hN : (md.slice ρ hd).view.dmaCredit = Nk k) {sS sR : DmaSem sig} (hS : sS = dS k) (hR : sR = dR k)
    {hsc : ((md.slice ρ hd) : Memref sig (Dev.tc c' : Thread nD τ).2.kind .vmem ρ.shape .fp8e4m3).view.ref.isScScratch = false}
    {hsrc : (ms.slice ρ hs).view.WordExact} {hdst : (md.slice ρ hd).view.WordExact}
    {hsem : DmaTarget.Typed .vmem (.dma sR) (.remote (Dev.tc c' : Thread nD τ) (md.slice ρ hd) (.dma sS) hsc)} :
    iprop(St X K c n r 0 ∗ sendPay X c k)
      ⊢ iprop((St X K c (n + 1) r 0 -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (ms.slice ρ hs) (.remote (Dev.tc c' : Thread nD τ) (md.slice ρ hd) (.dma sS) hsc) (.dma sR) hsrc hdst hsem) kk) Q) := by
  subst hms hmd
  have h1 : sendPay X c k = (((srcM c k).slice ρ hs).view.loc (c : Thread nD τ) ↦[((srcM c k).slice ρ hs).view.set]{srcQ k}
      ((srcM c k).view.rep (X (org c k)) : (srcM c k).view.ty.Contents (Elt F))) := by
    unfold sendPay hold
    rw [hρ]
    exact congrArg (fun S => ((srcM c k).view.loc (c : Thread nD τ) ↦[S]{srcQ k}
      ((srcM c k).view.rep (X (org c k)) : (srcM c k).view.ty.Contents (Elt F)) : sProp 𝕄)) (View.set_slice _ _).symm
  have h2 : slot c' k ⊢ (iprop(∃ fd : Buf (Elt F) (((dstM k).slice ρ hd).view.loc (c' : Thread nD τ)),
      ((dstM k).slice ρ hd).view.loc (c' : Thread nD τ) ↦[((dstM k).slice ρ hd).view.set]{fullShare} fd) : sProp 𝕄) := by
    unfold slot room
    rw [if_pos hk, hρ]
    exact Entails.of_eq (congrArg (fun S => (iprop(∃ fd : Buf (Elt F) ((dstM k).view.loc (c' : Thread nD τ)),
      (dstM k).view.loc (c' : Thread nD τ) ↦[S]{fullShare} fd) : sProp 𝕄)) (View.set_slice _ _).symm)
  have h3 : ∀ fd : Buf (Elt F) (((dstM k).slice ρ hd).view.loc (c' : Thread nD τ)),
      (((dstM k).slice ρ hd).view.loc (c' : Thread nD τ) ↦[((dstM k).slice ρ hd).view.set]{fullShare}
        ((dstM k).slice ρ hd).view.write (Elt F) fd (((srcM c k).slice ρ hs).view.read (Elt F) ((srcM c k).view.rep (X (org c k)))) Finset.univ : sProp 𝕄)
      ⊢ recvPay X c' k := fun fd => by
    subst hc'
    unfold recvPay; rw [if_pos hk, hρ, frm_tgt]
    exact Entails.of_eq (hold_landing (tgt c k) (dstM k) fd _ (X (org c k)) fun j => by
      show _ = (srcM c k).view.read (Elt F) ((srcM c k).view.rep (X (org c k))) (ρ.emb j)
      rw [View.read_rep])
  unfold St
  iintro ⟨⟨#HI, #Hl, HP⟩, Hp⟩ Hk
  iapply (send_step X K c c' k hc' n r hn hS hR h1 h2 h3 hN) $$ [HP Hp]
  · isplitr; · iexact HI
    isplitl [HP] <;> iassumption
  iintro HP; iapply Hk
  isplitr; · iexact HI
  isplitr; · iexact Hl
  iexact HP

/-- A transfer of half `h` of `ms` to the whole of `md`. -/
theorem send_half {α : Type} {Q : α → sProp 𝕄} {kk : PUnit → Prog (TpuEff nD τ sig (Elt F) Λ₀ .tc) α}
    {c c' : Dev nD} (k : Fin 26) (hc' : c' = tgt c k) {n r : ℕ} (hn : ord c k = n) (ms : M512) (md : M256) (h : Fin 2)
    (hms : srcM c k = ms) (hρ : rowsOf k = (hR h).set) (hsl : slot (F := F) c' k = room c' md Finset.univ)
    (hre : recvPay X c' k = hold c' md Finset.univ fullShare (halfOf h (X (org (frm c' k) k))))
    {hs : ∀ a, (hR h).stride a = 1} (hN : md.view.dmaCredit = Nk k) {sS sR : DmaSem sig} (hS : sS = dS k) (hR' : sR = dR k)
    {hsc : (md : Memref sig (Dev.tc c' : Thread nD τ).2.kind .vmem S256x4096 .fp8e4m3).view.ref.isScScratch = false}
    {hsrc : (ms.slice (hR h) hs).view.WordExact} {hdst : md.view.WordExact}
    {hsem : DmaTarget.Typed .vmem (.dma sR) (.remote (Dev.tc c' : Thread nD τ) md (.dma sS) hsc)} :
    iprop(St X K c n r 0 ∗ sendPay X c k)
      ⊢ iprop((St X K c (n + 1) r 0 -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (ms.slice (hR h) hs) (.remote (Dev.tc c' : Thread nD τ) md (.dma sS) hsc) (.dma sR) hsrc hdst hsem) kk) Q) := by
  subst hms
  have h1 : sendPay X c k = (((srcM c k).slice (hR h) hs).view.loc (c : Thread nD τ) ↦[((srcM c k).slice (hR h) hs).view.set]{srcQ k}
      ((srcM c k).view.rep (X (org c k)) : (srcM c k).view.ty.Contents (Elt F))) := by
    unfold sendPay hold
    rw [hρ]
    exact congrArg (fun S => ((srcM c k).view.loc (c : Thread nD τ) ↦[S]{srcQ k}
      ((srcM c k).view.rep (X (org c k)) : (srcM c k).view.ty.Contents (Elt F)) : sProp 𝕄)) (View.set_slice _ _).symm
  have h2 : slot c' k ⊢ (iprop(∃ fd : Buf (Elt F) (md.view.loc (c' : Thread nD τ)),
      md.view.loc (c' : Thread nD τ) ↦[md.view.set]{fullShare} fd) : sProp 𝕄) := by
    rw [hsl]; unfold room; rw [View.setOn_univ]
  have h3 : ∀ fd : Buf (Elt F) (md.view.loc (c' : Thread nD τ)),
      (md.view.loc (c' : Thread nD τ) ↦[md.view.set]{fullShare}
        md.view.write (Elt F) fd (((srcM c k).slice (hR h) hs).view.read (Elt F) ((srcM c k).view.rep (X (org c k)))) Finset.univ : sProp 𝕄)
      ⊢ recvPay X c' k := fun fd => by
    subst hc'
    rw [hre, frm_tgt]
    have e : ((srcM c k).slice (hR h) hs).view.read (Elt F) ((srcM c k).view.rep (X (org c k))) = halfOf h (X (org c k)) := by
      funext j
      show (srcM c k).view.read (Elt F) ((srcM c k).view.rep (X (org c k))) ((hR h).emb j) = _
      rw [View.read_rep]; rfl
    rw [e]
    exact Entails.of_eq (hold_landing_whole (tgt c k) md fd _)
  unfold St
  iintro ⟨⟨#HI, #Hl, HP⟩, Hp⟩ Hk
  iapply (send_step X K c c' k hc' n r hn hS hR' h1 h2 h3 hN) $$ [HP Hp]
  · isplitr; · iexact HI
    isplitl [HP] <;> iassumption
  iintro HP; iapply Hk
  isplitr; · iexact HI
  isplitr; · iexact Hl
  iexact HP

variable {sp sp' : Space} {sh sh' : Shape} {e e' : EltTy} {sm : DmaSem sig}
  {src : Memref sig .tc sp' sh' e'} {dst : Memref sig .tc sp sh e} {hsrc : src.view.WordExact} {hdst : dst.view.WordExact}

/-- A wait for what comes. -/
theorem recv_move {α : Type} {Q : α → sProp 𝕄} {kk : PUnit → Prog (TpuEff nD τ sig (Elt F) Λ₀ .tc) α}
    {c : Dev nD} (k : Fin 26) {n r s : ℕ} (hr : rord k = r) (hlev : ∀ k', n ≤ ord c k' → lvR k < lvR k')
    (hsm : sm = dR k) (hN : dst.view.dmaCredit = Nk k) :
    St X K c n r s
      ⊢ iprop(((St X K c n (r + 1) s ∗ recvPay X c k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  unfold St
  iintro ⟨#HI, #Hl, HP⟩ Hk
  iapply (recv_step X K c k n r s hr hlev hsm hN) $$ [HP]
  · isplitr; · iexact HI
    isplitr; · iexact Hl
    iexact HP
  iintro ⟨HP, Hp⟩; iapply Hk
  isplitl [HP]
  · isplitr; · iexact HI
    isplitr; · iexact Hl
    iexact HP
  iexact Hp

/-- A wait for rows `ρ` of `md`, and for the whole of a half block's buffer. -/
theorem recv_rows {α : Type} {Q : α → sProp 𝕄} {kk : PUnit → Prog (TpuEff nD τ sig (Elt F) Λ₀ .tc) α}
    {c : Dev nD} (k : Fin 26) (n r : ℕ) {s : ℕ} (hr : rord k = r) (hlev : ∀ k', n ≤ ord c k' → lvR k < lvR k')
    (md : M512) (ρ : Rect S512x4096) {hd : ∀ a, ρ.stride a = 1} (hsm : sm = dR k) (hN : (md.slice ρ hd).view.dmaCredit = Nk k)
    {hdst : (md.slice ρ hd).view.WordExact} :
    St X K c n r s
      ⊢ iprop(((St X K c n (r + 1) s ∗ recvPay X c k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src (md.slice ρ hd) hsrc hdst) kk) Q) :=
  recv_move X K k hr hlev hsm hN
theorem recv_all {α : Type} {Q : α → sProp 𝕄} {kk : PUnit → Prog (TpuEff nD τ sig (Elt F) Λ₀ .tc) α}
    {c : Dev nD} (k : Fin 26) (n r : ℕ) {s : ℕ} (hr : rord k = r) (hlev : ∀ k', n ≤ ord c k' → lvR k < lvR k')
    (md : M256) (hsm : sm = dR k) (hN : md.view.dmaCredit = Nk k) {hdst : md.view.WordExact} :
    St X K c n r s
      ⊢ iprop(((St X K c n (r + 1) s ∗ recvPay X c k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src md hsrc hdst) kk) Q) :=
  recv_move X K k hr hlev hsm hN

/-- A wait for a transfer of the device's own to have been read. -/
theorem drain_move {α : Type} {Q : α → sProp 𝕄} {kk : PUnit → Prog (TpuEff nD τ sig (Elt F) Λ₀ .tc) α}
    {c : Dev nD} (k : Fin 26) {r s : ℕ} (hs : k.val = s) (hsm : sm = dS k) (hN : dst.view.dmaCredit = Nk k) :
    St X K c 26 r s
      ⊢ iprop((St X K c 26 r (s + 1) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  unfold St
  iintro ⟨#HI, #Hl, HP⟩ Hk
  iapply (drain_step X K c k r s hs hsm hN) $$ [HP]
  · isplitr; · iexact HI
    iexact HP
  iintro HP; iapply Hk
  isplitr; · iexact HI
  isplitr; · iexact Hl
  iexact HP

/-- The same, the amount read off rows of a buffer. -/
theorem drain_rows {α : Type} {Q : α → sProp 𝕄} {kk : PUnit → Prog (TpuEff nD τ sig (Elt F) Λ₀ .tc) α}
    {c : Dev nD} (k : Fin 26) (r s : ℕ) (hs : k.val = s) (md : M512) (ρ : Rect S512x4096) {hd : ∀ a, ρ.stride a = 1}
    (hsm : sm = dS k) (hN : (md.slice ρ hd).view.dmaCredit = Nk k) {hdst : (md.slice ρ hd).view.WordExact} :
    St X K c 26 r s
      ⊢ iprop((St X K c 26 r (s + 1) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src (md.slice ρ hd) hsrc hdst) kk) Q) :=
  drain_move X K k hs hsm hN

end

/-- A conditional transfer: where `b` holds, `P` is handed in and `m - n` more transfers are started; both branches go on with `e`. -/
theorem cond_move {α : Type} {c : Dev nD} {p : Prop} [Decidable p] {t : p → Prog (TpuEff nD τ sig (Elt F) Λ₀ .tc) α}
    {e : Prog (TpuEff nD τ sig (Elt F) Λ₀ .tc) α} {b : Bool} (hp : p ↔ b = true)
    {n n' m r : ℕ} {P : sProp 𝕄} (hm : m = if b = true then n' else n) {Q : α → sProp 𝕄}
    (ht : ∀ (h : p) (hb : b = true), iprop(St X K c n r 0 ∗ P)
      ⊢ iprop((St X K c n' r 0 -∗ wp frame (wpE (defs₀ (F := F)) 𝒱₀ (c : Thread nD τ) none) Set.univ e Q)
        -∗ wp frame (wpE (defs₀ (F := F)) 𝒱₀ (c : Thread nD τ) none) Set.univ (t h) Q)) :
    iprop(St X K c n r 0 ∗ P)
      ⊢ iprop(((St X K c m r 0 ∗ spare b P) -∗ wp frame (wpE (defs₀ (F := F)) 𝒱₀ (c : Thread nD τ) none) Set.univ e Q)
        -∗ wp frame (wpE (defs₀ (F := F)) 𝒱₀ (c : Thread nD τ) none) Set.univ (if h : p then t h else e) Q) := by
  by_cases h : p
  · have hb := hp.mp h
    rw [dif_pos h, hm, if_pos hb, spare, if_pos hb]
    iintro H Hk
    iapply (ht h hb) $$ H
    iintro H; iapply Hk
    isplitl [H]; · iexact H
    iempintro
  · have hb : ¬ b = true := fun hb => h (hp.mpr hb)
    rw [dif_neg h, hm, if_neg hb, spare, if_neg hb]
    iintro H Hk
    iapply Hk; iexact H

end Cert.RingProof
-- ==== Proof.Shares.lean ====
/-
# How the blocks of rows are cut and joined

What a device holds of a block is cut, by rows and by share, into what its transfers read and what it keeps; and joined again.
-/
module

public import proofs.«01_k».proof.Proof.Moves

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3)

/-! ## By rows -/

/-- A holding cut by its share. -/
theorem hold_halves (c : Dev nD) {s : Shape} {e : EltTy} (m : Memref sig .tc .vmem s e) (S : Finset s.Idx) (q : PosShare TreeShare)
    (Y : s.Idx → Elt F e) : (hold c m S q Y : sProp 𝕄) = iprop(hold c m S q.left Y ∗ hold c m S q.right Y) := by
  have u := hold_share c m (S := S) q (X := Y)
  exact equiv_iff.mp ⟨u.1, u.2⟩

theorem qR_disjoint (q q' : Fin 4) (h : q ≠ q') : Disjoint (qR q).set (qR q').set := by
  rw [Finset.disjoint_left]; intro i m m'
  have h1 := (mem_rows (n0 := 512) (n1 := 4096)).mp m
  have h2 := (mem_rows (n0 := 512) (n1 := 4096)).mp m'
  exact h (Fin.ext (by omega))
theorem qR_cover : Finset.univ.biUnion (fun q : Fin 4 => (qR q).set) = Finset.univ := by
  ext i
  have hi : (i 0).val < 512 := (i 0).isLt
  simp only [Finset.mem_biUnion, Finset.mem_univ, true_and, iff_true]
  have ho : (i 0).val / 128 < 4 := by omega
  refine ⟨⟨(i 0).val / 128, ho⟩, (mem_rows (n0 := 512) (n1 := 4096)).mpr ?_⟩
  dsimp only; omega

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A block cut into its four quarters. -/
theorem hold_quarters (c : Dev nD) (m : M512) (q : PosShare TreeShare) (Y : S512x4096.Idx → Elt F .fp8e4m3) :
    (hold c m Finset.univ q Y : sProp 𝕄)
      = iprop(hold c m (qR 0).set q Y ∗ hold c m (qR 1).set q Y ∗ hold c m (qR 2).set q Y ∗ hold c m (qR 3).set q Y) := by
  rw [hold_blocks c m (fun b => (qR b).set) qR_disjoint qR_cover, bigSep_four]
theorem room_quarters (c : Dev nD) (m : M512) :
    (room c m Finset.univ : sProp 𝕄)
      ⊢ iprop(room (F := F) c m (qR 0).set ∗ room (F := F) c m (qR 1).set ∗ room (F := F) c m (qR 2).set ∗ room (F := F) c m (qR 3).set) := by
  have h := room_blocks (F := F) c m (fun b => (qR b).set) qR_disjoint qR_cover
  rwa [bigSep_four] at h

/-- A half of a block cut into two quarters, and the block into its halves. -/
theorem hold_top (c : Dev nD) (m : M512) (q : PosShare TreeShare) (Y : S512x4096.Idx → Elt F .fp8e4m3) :
    (hold c m (hR 0).set q Y : sProp 𝕄) = iprop(hold c m (qR 0).set q Y ∗ hold c m (qR 1).set q Y) := by
  rw [← quarters_union 0 0 1 rfl rfl, hold_union c m (quarters_disjoint 0 0 1 rfl rfl)]
theorem hold_bot (c : Dev nD) (m : M512) (q : PosShare TreeShare) (Y : S512x4096.Idx → Elt F .fp8e4m3) :
    (hold c m (hR 1).set q Y : sProp 𝕄) = iprop(hold c m (qR 2).set q Y ∗ hold c m (qR 3).set q Y) := by
  rw [← quarters_union 1 2 3 rfl rfl, hold_union c m (quarters_disjoint 1 2 3 rfl rfl)]
theorem hold_both (c : Dev nD) (m : M512) (q : PosShare TreeShare) (Y : S512x4096.Idx → Elt F .fp8e4m3) :
    (hold c m Finset.univ q Y : sProp 𝕄) = iprop(hold c m (hR 0).set q Y ∗ hold c m (hR 1).set q Y) := by
  rw [← halves_union, hold_union c m halves_disjoint]

/-! ## By share -/

/-- What a device keeps, of its own block and of its neighbours', beside what its transfers read. -/
def keepO (c : Dev nD) (S : Finset S512x4096.Idx) : sProp 𝕄 := hold c own8M S fullShare.right.right (X c)
def keepL (c : Dev nD) (S : Finset S512x4096.Idx) : sProp 𝕄 := hold c l1M S fullShare.right (X (left c))
def keepR (c : Dev nD) (S : Finset S512x4096.Idx) : sProp 𝕄 := hold c r1M S fullShare.right (X (right c))
def keepLL (c : Dev nD) (S : Finset S512x4096.Idx) : sProp 𝕄 := hold c l2M S fullShare.right (X (left (left c)))
def keepRR (c : Dev nD) (S : Finset S512x4096.Idx) : sProp 𝕄 := hold c r2M S fullShare.right (X (right (right c)))
/-- What one of the two parities sends across, of a neighbour's block. -/
def spL (c : Dev nD) (q : Fin 4) : sProp 𝕄 := hold c l1M (qR q).set fullShare.left.right (X (left c))
def spR (c : Dev nD) (q : Fin 4) : sProp 𝕄 := hold c r1M (qR q).set fullShare.left.right (X (right c))
/-- What one of the two parities sends on, of the block two steps away. -/
def spLL (c : Dev nD) (h : Fin 2) : sProp 𝕄 := hold c l2M (hR h).set fullShare.left (X (left (left c)))
def spRR (c : Dev nD) (h : Fin 2) : sProp 𝕄 := hold c r2M (hR h).set fullShare.left (X (right (right c)))

theorem own_cut (c : Dev nD) (q : Fin 4) :
    (hold c own8M (qR q).set fullShare (X c) : sProp 𝕄)
      = iprop((sendPay X c (kA q) ∗ sendPay X c (kB q)) ∗ sendPay X c (kC q) ∗ keepO X c (qR q).set) := by
  rw [hold_halves, hold_halves c own8M _ fullShare.left, hold_halves c own8M _ fullShare.right]
  fin_cases q <;> rfl
theorem left_cut (c : Dev nD) (q : Fin 4) :
    (recvPay X c (kA q) : sProp 𝕄) = iprop((sendPay X c (kA2 q) ∗ spL X c q) ∗ keepL X c (qR q).set) := by
  have h : (recvPay X c (kA q) : sProp 𝕄) = hold c l1M (qR q).set fullShare (X (left c)) := by fin_cases q <;> rfl
  rw [h, hold_halves, hold_halves c l1M _ fullShare.left]
  fin_cases q <;> rfl
theorem right_cut (c : Dev nD) (q : Fin 4) :
    (recvPay X c (kB q) : sProp 𝕄) = iprop((sendPay X c (kB2 q) ∗ spR X c q) ∗ keepR X c (qR q).set) := by
  have h : (recvPay X c (kB q) : sProp 𝕄) = hold c r1M (qR q).set fullShare (X (right c)) := by fin_cases q <;> rfl
  rw [h, hold_halves, hold_halves c r1M _ fullShare.left]
  fin_cases q <;> rfl
theorem across_recv (c : Dev nD) (q : Fin 4) :
    (recvPay X c (kC q) : sProp 𝕄) = hold c c1M (qR q).set fullShare (X (partner c)) := by fin_cases q <;> rfl
theorem org_C2 (c : Dev nD) (q : Fin 4) : org (frm c (kC2 q)) (kC2 q) = opposite c := by revert c q; decide +kernel
theorem across2_recv (c : Dev nD) (q : Fin 4) :
    (recvPay X c (kC2 q) : sProp 𝕄) = hold c c2M (qR q).set fullShare (X (opposite c)) := by
  rw [← org_C2 c q]; fin_cases q <;> rfl
theorem org_24 (c : Dev nD) : org (frm c 24) 24 = last c := by revert c; decide +kernel
theorem org_25 (c : Dev nD) : org (frm c 25) 25 = last c := by revert c; decide +kernel
theorem last_top (c : Dev nD) : (recvPay X c 24 : sProp 𝕄) = hold c c3M Finset.univ fullShare (halfOf 0 (X (last c))) := by
  unfold recvPay; rw [if_neg (by decide), if_pos (by decide), org_24 c]
theorem last_bot (c : Dev nD) : (recvPay X c 25 : sProp 𝕄) = hold c r3M Finset.univ fullShare (halfOf 1 (X (last c))) := by
  unfold recvPay; rw [if_neg (by decide), if_neg (by decide), org_25 c]
theorem org_A2 (c : Dev nD) (q : Fin 4) : org (frm c (kA2 q)) (kA2 q) = left (left c) := by revert c q; decide +kernel
theorem org_B2 (c : Dev nD) (q : Fin 4) : org (frm c (kB2 q)) (kB2 q) = right (right c) := by revert c q; decide +kernel
theorem left2_recv (c : Dev nD) (q : Fin 4) :
    (recvPay X c (kA2 q) : sProp 𝕄) = hold c l2M (qR q).set fullShare (X (left (left c))) := by
  rw [← org_A2 c q]; fin_cases q <;> rfl
theorem right2_recv (c : Dev nD) (q : Fin 4) :
    (recvPay X c (kB2 q) : sProp 𝕄) = hold c r2M (qR q).set fullShare (X (right (right c))) := by
  rw [← org_B2 c q]; fin_cases q <;> rfl
theorem left2_top (c : Dev nD) :
    (iprop(recvPay X c (kA2 0) ∗ recvPay X c (kA2 1)) : sProp 𝕄) = iprop(spLL X c 0 ∗ keepLL X c (hR 0).set) := by
  rw [left2_recv, left2_recv, ← hold_top c l2M, hold_halves c l2M (hR 0).set]; rfl
theorem left2_bot (c : Dev nD) :
    (iprop(recvPay X c (kA2 2) ∗ recvPay X c (kA2 3)) : sProp 𝕄) = iprop(spLL X c 1 ∗ keepLL X c (hR 1).set) := by
  rw [left2_recv, left2_recv, ← hold_bot c l2M, hold_halves c l2M (hR 1).set]; rfl
theorem right2_top (c : Dev nD) :
    (iprop(recvPay X c (kB2 0) ∗ recvPay X c (kB2 1)) : sProp 𝕄) = iprop(spRR X c 0 ∗ keepRR X c (hR 0).set) := by
  rw [right2_recv, right2_recv, ← hold_top c r2M, hold_halves c r2M (hR 0).set]; rfl
theorem right2_bot (c : Dev nD) :
    (iprop(recvPay X c (kB2 2) ∗ recvPay X c (kB2 3)) : sProp 𝕄) = iprop(spRR X c 1 ∗ keepRR X c (hR 1).set) := by
  rw [right2_recv, right2_recv, ← hold_bot c r2M, hold_halves c r2M (hR 1).set]; rfl

/-- Which of a neighbour's blocks the transfers across read. -/
theorem send_even (c : Dev nD) (h : even c = true) (q : Fin 4) : (sendPay X c (kC2 q) : sProp 𝕄) = spL X c q := by
  have e : sendPay X c (kC2 q) = hold c (if even c = true then l1M else r1M) (qR q).set fullShare.left.right
      (X (if even c = true then left c else right c)) := by fin_cases q <;> rfl
  rw [e, if_pos h, if_pos h]; rfl
theorem send_odd (c : Dev nD) (h : (!even c) = true) (q : Fin 4) : (sendPay X c (kC2 q) : sProp 𝕄) = spR X c q := by
  have h' : ¬ even c = true := by simpa using h
  have e : sendPay X c (kC2 q) = hold c (if even c = true then l1M else r1M) (qR q).set fullShare.left.right
      (X (if even c = true then left c else right c)) := by fin_cases q <;> rfl
  rw [e, if_neg h', if_neg h']; rfl
theorem send24_even (c : Dev nD) (h : even c = true) : (sendPay X c 24 : sProp 𝕄) = spLL X c 0 := by
  have e : sendPay X c 24 = hold c (if even c = true then l2M else r2M) (hR 0).set fullShare.left
      (X (if even c = true then left (left c) else right (right c))) := rfl
  rw [e, if_pos h, if_pos h]; rfl
theorem send24_odd (c : Dev nD) (h : (!even c) = true) : (sendPay X c 24 : sProp 𝕄) = spRR X c 0 := by
  have h' : ¬ even c = true := by simpa using h
  have e : sendPay X c 24 = hold c (if even c = true then l2M else r2M) (hR 0).set fullShare.left
      (X (if even c = true then left (left c) else right (right c))) := rfl
  rw [e, if_neg h', if_neg h']; rfl
theorem send25_even (c : Dev nD) (h : even c = true) : (sendPay X c 25 : sProp 𝕄) = spRR X c 1 := by
  have e : sendPay X c 25 = hold c (if even c = true then r2M else l2M) (hR 1).set fullShare.left
      (X (if even c = true then right (right c) else left (left c))) := rfl
  rw [e, if_pos h, if_pos h]; rfl
theorem send25_odd (c : Dev nD) (h : (!even c) = true) : (sendPay X c 25 : sProp 𝕄) = spLL X c 1 := by
  have h' : ¬ even c = true := by simpa using h
  have e : sendPay X c 25 = hold c (if even c = true then r2M else l2M) (hR 1).set fullShare.left
      (X (if even c = true then right (right c) else left (left c))) := rfl
  rw [e, if_neg h', if_neg h']; rfl

/-! ## All joined again -/

/-- The parity's choices: what an even or odd device sent across comes back, and what it did not send it still has. -/
theorem choice_even (c : Dev nD) (h : even c = true) (P Q : sProp 𝕄) : iprop(spare (even c) P ∗ spare (!even c) Q) ⊢ Q := by
  unfold spare; rw [if_pos h, h, if_neg (by decide)]
  iintro ⟨-, H⟩; iexact H
theorem choice_odd (c : Dev nD) (h : ¬ even c = true) (P Q : sProp 𝕄) : iprop(spare (even c) P ∗ spare (!even c) Q) ⊢ P := by
  unfold spare; rw [if_neg h, if_pos (by simpa using h)]
  iintro ⟨H, -⟩; iexact H

theorem quarter_back (c : Dev nD) (q : Fin 4) :
    (iprop(sendPay X c (kC2 q) ∗ spare (even c) (spL X c q) ∗ spare (!even c) (spR X c q)) : sProp 𝕄) ⊢ iprop(spL X c q ∗ spR X c q) := by
  by_cases h : even c = true
  · rw [send_even X c h]
    iintro ⟨H, HH⟩; isplitl [H]; · iexact H
    iapply (choice_even c h _ _) $$ HH
  · rw [send_odd X c (by simpa using h)]
    iintro ⟨H, HH⟩; isplitr [H]; · iapply (choice_odd c h _ _) $$ HH
    iexact H
theorem half_back (c : Dev nD) :
    (iprop((sendPay X c 24 ∗ sendPay X c 25) ∗ (spare (even c) (spLL X c 0) ∗ spare (!even c) (spRR X c 0))
      ∗ (spare (even c) (spRR X c 1) ∗ spare (!even c) (spLL X c 1))) : sProp 𝕄)
      ⊢ iprop((spLL X c 0 ∗ spLL X c 1) ∗ (spRR X c 0 ∗ spRR X c 1)) := by
  by_cases h : even c = true
  · rw [send24_even X c h, send25_even X c h]
    iintro ⟨⟨H1, H2⟩, Ha, Hb⟩
    ihave Ha := (choice_even c h _ _) $$ Ha
    ihave Hb := (choice_even c h _ _) $$ Hb
    isplitl [H1 Hb]
    · isplitl [H1] <;> iassumption
    isplitl [Ha] <;> iassumption
  · rw [send24_odd X c (by simpa using h), send25_odd X c (by simpa using h)]
    iintro ⟨⟨H1, H2⟩, Ha, Hb⟩
    ihave Ha := (choice_odd c h _ _) $$ Ha
    ihave Hb := (choice_odd c h _ _) $$ Hb
    isplitl [Ha H2]
    · isplitl [Ha] <;> iassumption
    isplitl [H1] <;> iassumption

end Cert.RingProof
-- ==== Proof.Branches.lean ====
/-
# Conditional transfers, and stores into the result

The transfers that only devices on even, or only devices on odd, places start; and the store of one block's rows of the result.
-/
module

public import proofs.«01_k».proof.Proof.Shares

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3) (K : Dev nD × Fin 53 → ℕ)

/-- A transfer of rows that is started where `p` holds. -/
theorem cond_rows {α : Type} {Q : α → sProp 𝕄} {kk : PUnit → Prog (TpuEff nD τ sig (Elt F) Λ₀ .tc) α} {c : Dev nD} {p : Prop} [Decidable p] {c' : p → Dev nD} (k : Fin 26) (b : Bool) (hp : p ↔ b = true)
    (hc' : ∀ h, c' h = tgt c k) {n m r : ℕ} (hn : b = true → ord c k = n) (hm : m = if b = true then n + 1 else n)
    (ms md : M512) (ρ : Rect S512x4096) (hms : b = true → srcM c k = ms) (hmd : dstM k = md) (hρ : rowsOf k = ρ.set) (hk : k.val < 24)
    {P : sProp 𝕄} (hP : b = true → sendPay X c k = P)
    {hs hd : ∀ a, ρ.stride a = 1} (hN : (md.slice ρ hd).view.dmaCredit = Nk k) {sS sR : DmaSem sig} (hS : sS = dS k) (hR : sR = dR k)
    {hsc : ∀ h, ((md.slice ρ hd) : Memref sig (Dev.tc (c' h) : Thread nD τ).2.kind .vmem ρ.shape .fp8e4m3).view.ref.isScScratch = false}
    {hsrc : (ms.slice ρ hs).view.WordExact} {hdst : (md.slice ρ hd).view.WordExact}
    {hsem : ∀ h, DmaTarget.Typed .vmem (.dma sR) (.remote (Dev.tc (c' h) : Thread nD τ) (md.slice ρ hd) (.dma sS) (hsc h))} :
    iprop(St X K c n r 0 ∗ P)
      ⊢ iprop(((St X K c m r 0 ∗ spare b P) -∗ wp frame (wpE (defs₀ (F := F)) 𝒱₀ (c : Thread nD τ) none) Set.univ (kk ⟨⟩) Q)
        -∗ wp frame (wpE (defs₀ (F := F)) 𝒱₀ (c : Thread nD τ) none) Set.univ
            (if h : p then .op (.enqueueDma (ms.slice ρ hs) (.remote (Dev.tc (c' h) : Thread nD τ) (md.slice ρ hd) (.dma sS) (hsc h)) (.dma sR) hsrc hdst (hsem h))
              kk else kk ⟨⟩) Q) := by
  refine cond_move X K hp (n' := n + 1) hm fun h hb => ?_
  rw [← hP hb]
  iintro H Hk
  iapply (send_rows X K k (hc' h) (hn hb) ms md ρ (hms hb) hmd hρ hk hN hS hR) $$ H
  iintro H
  iapply Hk; iexact H

/-- A transfer of a half that is started where `p` holds. -/
theorem cond_half {α : Type} {Q : α → sProp 𝕄} {kk : PUnit → Prog (TpuEff nD τ sig (Elt F) Λ₀ .tc) α} {c : Dev nD} {p : Prop} [Decidable p] {c' : p → Dev nD} (k : Fin 26) (b : Bool) (hp : p ↔ b = true)
    (hc' : ∀ h, c' h = tgt c k) {n m r : ℕ} (hn : b = true → ord c k = n) (hm : m = if b = true then n + 1 else n)
    (ms : M512) (md : M256) (h : Fin 2) (hms : b = true → srcM c k = ms) (hρ : rowsOf k = (hR h).set)
    (hsl : ∀ d, slot (F := F) d k = room d md Finset.univ)
    (hre : ∀ d, recvPay X d k = hold d md Finset.univ fullShare (halfOf h (X (org (frm d k) k))))
    {P : sProp 𝕄} (hP : b = true → sendPay X c k = P)
    {hs : ∀ a, (hR h).stride a = 1} (hN : md.view.dmaCredit = Nk k) {sS sR : DmaSem sig} (hS : sS = dS k) (hR' : sR = dR k)
    {hsc : ∀ h, (md : Memref sig (Dev.tc (c' h) : Thread nD τ).2.kind .vmem S256x4096 .fp8e4m3).view.ref.isScScratch = false}
    {hsrc : (ms.slice (hR h) hs).view.WordExact} {hdst : md.view.WordExact}
    {hsem : ∀ h, DmaTarget.Typed .vmem (.dma sR) (.remote (Dev.tc (c' h) : Thread nD τ) md (.dma sS) (hsc h))} :
    iprop(St X K c n r 0 ∗ P)
      ⊢ iprop(((St X K c m r 0 ∗ spare b P) -∗ wp frame (wpE (defs₀ (F := F)) 𝒱₀ (c : Thread nD τ) none) Set.univ (kk ⟨⟩) Q)
        -∗ wp frame (wpE (defs₀ (F := F)) 𝒱₀ (c : Thread nD τ) none) Set.univ
            (if hp : p then .op (.enqueueDma (ms.slice (hR h) hs) (.remote (Dev.tc (c' hp) : Thread nD τ) md (.dma sS) (hsc hp)) (.dma sR) hsrc hdst (hsem hp))
              kk else kk ⟨⟩) Q) := by
  refine cond_move X K hp (n' := n + 1) hm fun hh hb => ?_
  rw [← hP hb]
  iintro H Hk
  iapply (send_half X K k (hc' hh) (hn hb) ms md h (hms hb) hρ (hsl _) (hre _) hN hS hR') $$ H
  iintro H
  iapply Hk; iexact H

/-! ## The result -/

/-- The 512 rows of the result of one block, and the 256 rows of half of one. -/
def gemm (s : F .f32) (Y : S512x4096.Idx → Elt F .fp8e4m3) (w : S4096x1024.Idx → Elt F .fp8e4m3) : S512x1024.Idx → Elt F .f32 := k0_pay10 s Y w
def gemmH (s : F .f32) (Y : S256x4096.Idx → Elt F .fp8e4m3) (w : S4096x1024.Idx → Elt F .fp8e4m3) : S256x1024.Idx → Elt F .f32 := k0_pay19 s Y w

/-- A load and a store of the result at a block's rows, which leave them at what was stored. -/
theorem out_put {α : Type} {Q : α → sProp 𝕄} {kk : PUnit → Prog (TpuEff nD τ sig (Elt F) Λ₀ .tc) α} {c : Dev nD}
    {off : Fin 2 → ℕ} {inb : ∀ a, off a + S512x1024.size a ≤ S4096x1024.size a} (o : Dev nD) (ho : off = ![512 * o.val, 0])
    (Z : S4096x1024.Idx → Elt F .f32) {w : S512x1024.Idx → Elt F .f32} (hZ : ∀ j, Z ((oR o).emb j) = w j)
    {hl : outM.view.LoadsAt (Rect.unit (s := S4096x1024) off S512x1024.size inb).toLoadRect}
    {hx : (outM.access (Rect.unit (s := S4096x1024) off S512x1024.size inb)).Stores Finset.univ}
    {hm : (Finset.univ : Finset (Rect.unit (s := S4096x1024) off S512x1024.size inb).shape.Idx) = Finset.univ
      ∨ ∀ a, (Rect.unit (s := S4096x1024) off S512x1024.size inb).stride a = 1} :
    (room c outM (oR o).set : sProp 𝕄)
      ⊢ iprop((hold c outM (oR o).set fullShare Z -∗ wp frame (wpE (defs₀ (F := F)) 𝒱₀ (c : Thread nD τ) none) Set.univ (kk ⟨⟩) Q)
        -∗ wp frame (wpE (defs₀ (F := F)) 𝒱₀ (c : Thread nD τ) none) Set.univ
            (.op (.load outM (Rect.unit (s := S4096x1024) off S512x1024.size inb).toLoadRect hl) fun _ =>
              .op (.store outM (Rect.unit (s := S4096x1024) off S512x1024.size inb) w Finset.univ hx hm) kk) Q) := by
  subst ho
  iintro H Hk
  iapply (room_load c outM (S := (oR o).set) (Finset.Subset.refl _)) $$ H
  iintro %_ H
  iapply (room_store c outM (r := oR o) Z hZ) $$ H
  iintro H; iapply Hk; iexact H

/-- The same of a half block's rows. -/
theorem out_put_half {α : Type} {Q : α → sProp 𝕄} {kk : PUnit → Prog (TpuEff nD τ sig (Elt F) Λ₀ .tc) α} {c : Dev nD}
    {off : Fin 2 → ℕ} {inb : ∀ a, off a + S256x1024.size a ≤ S4096x1024.size a} (o : Dev nD) (h : Fin 2) (ho : off = ![512 * o.val + 256 * h.val, 0])
    (Z : S4096x1024.Idx → Elt F .f32) {w : S256x1024.Idx → Elt F .f32} (hZ : ∀ j, Z ((ohR o h).emb j) = w j)
    {hl : outM.view.LoadsAt (Rect.unit (s := S4096x1024) off S256x1024.size inb).toLoadRect}
    {hx : (outM.access (Rect.unit (s := S4096x1024) off S256x1024.size inb)).Stores Finset.univ}
    {hm : (Finset.univ : Finset (Rect.unit (s := S4096x1024) off S256x1024.size inb).shape.Idx) = Finset.univ
      ∨ ∀ a, (Rect.unit (s := S4096x1024) off S256x1024.size inb).stride a = 1} :
    (room c outM (ohR o h).set : sProp 𝕄)
      ⊢ iprop((hold c outM (ohR o h).set fullShare Z -∗ wp frame (wpE (defs₀ (F := F)) 𝒱₀ (c : Thread nD τ) none) Set.univ (kk ⟨⟩) Q)
        -∗ wp frame (wpE (defs₀ (F := F)) 𝒱₀ (c : Thread nD τ) none) Set.univ
            (.op (.load outM (Rect.unit (s := S4096x1024) off S256x1024.size inb).toLoadRect hl) fun _ =>
              .op (.store outM (Rect.unit (s := S4096x1024) off S256x1024.size inb) w Finset.univ hx hm) kk) Q) := by
  subst ho
  iintro H Hk
  iapply (room_load c outM (S := (ohR o h).set) (Finset.Subset.refl _)) $$ H
  iintro %_ H
  iapply (room_store c outM (r := ohR o h) Z hZ) $$ H
  iintro H; iapply Hk; iexact H

/-- The whole of a shape as a rectangle places every element at itself. -/
theorem idx_whole {s : Shape} {off : Fin s.rank → ℕ} (h : ∀ a, off a = 0) {inb : ∀ a, off a + s.size a ≤ s.size a} (y : s.Idx) :
    (Rect.unit (s := s) off s.size inb).toLoadRect.idx y = y := by
  funext a
  refine Fin.ext ?_
  show off a + 1 * (y a).val = (y a).val
  rw [h a]; omega

/-- A load of the whole of a buffer held reads what it holds. -/
theorem whole_load {α : Type} {Q : α → sProp 𝕄} {c : Dev nD} {s : Shape} {e : EltTy} (m : Memref sig .tc .vmem s e) {q : PosShare TreeShare}
    {Y : s.Idx → Elt F e} {off : Fin s.rank → ℕ} (h : ∀ a, off a = 0) {inb : ∀ a, off a + s.size a ≤ s.size a}
    {hl : m.view.LoadsAt (Rect.unit (s := s) off s.size inb).toLoadRect}
    {kk : (s.Idx → Elt F e) → Prog (TpuEff nD τ sig (Elt F) Λ₀ .tc) α} :
    (hold c m Finset.univ q Y : sProp 𝕄)
      ⊢ iprop((hold c m Finset.univ q Y -∗ wp frame (wpE (defs₀ (F := F)) 𝒱₀ (c : Thread nD τ) none) Set.univ (kk Y) Q)
        -∗ wp frame (wpE (defs₀ (F := F)) 𝒱₀ (c : Thread nD τ) none) Set.univ
            (.op (.load m (Rect.unit (s := s) off s.size inb).toLoadRect hl) kk) Q) :=
  hold_load (r := (Rect.unit (s := s) off s.size inb).toLoadRect) (hl := hl) (k := kk) (Q := Q) (q := q) (X := Y) c m (Finset.subset_univ _) Y (funext fun y => congrArg Y (idx_whole h y))

/-- How many transfers device `c` has started when it waits for transfer `k` into it; all it has not started are above. -/
def waitN (c : Dev nD) (k : Fin 26) : ℕ :=
  if k.val = 0 then 12 else if k.val = 1 then 15 else if k.val = 2 then 18 else if k.val = 3 then 21
  else if k.val = 4 then 13 + ev c else if k.val = 5 then 16 + ev c else if k.val = 6 then 19 + ev c else if k.val = 7 then 22 + ev c
  else if k.val < 14 then 24 else if k.val < 16 then 25 else if k.val < 18 then 24 + ev c else if k.val < 20 then 26 - ev c else 26
theorem wait_ok (c : Dev nD) (k k' : Fin 26) (h : waitN c k ≤ ord c k') : lvR k < lvR k' := by
  revert c k k'; decide +kernel

end Cert.RingProof
-- ==== Proof.Entry.lean ====
/-
# The body's start: the three signals and the wait for three

What each device starts with, and the run of the kernel's body up to the point where its neighbours' buffers are known to be free.
-/
module

public import proofs.«01_k».proof.Proof.Branches
public import Idealize.ShloMosaic.Lib.Pipeline.Value
public import Idealize.ShloMosaic.Lib.ValueIdxCore

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3) (K : Dev nD × Fin 53 → ℕ)

abbrev sxM : Memref sig .tc .smem S1 .f32 := Memref.whole cc0_stg2_0
abbrev swM : Memref sig .tc .smem S1 .f32 := Memref.whole cc0_stg3_0

/-- Quarter `q` of a block. -/
def qtr {V : Type} (q : Fin 4) (Y : S512x4096.Idx → V) : S128x4096.Idx → V := fun j => Y ((qR q).emb j)

/-- The one element of a scale. -/
def i0 : S1.Idx := ValueIdx.ix1 (0 : Fin 1)
def smv (m : Memref sig .tc .smem S1 .f32) (f : m.view.ty.Contents (Elt F)) : Elt F .f32 := m.view.read (Elt F) f i0

/-- A load of a scale. -/
theorem smem_step {α : Type} {Q : α → sProp 𝕄} (c : Dev nD) (m : Memref sig .tc .smem S1 .f32) (f : m.view.ty.Contents (Elt F))
    {off : Fin 1 → ℕ} {inb : ∀ a, off a + S1.size a ≤ S1.size a} {hl : m.view.LoadsAt (Rect.unit (s := S1) off S1.size inb).toLoadRect}
    {kk : (S1.Idx → Elt F .f32) → Prog (TpuEff nD τ sig (Elt F) Λ₀ .tc) α} :
    (m.view.loc (c : Thread nD τ) ↦{fullShare} f : sProp 𝕄)
      ⊢ iprop(((m.view.loc (c : Thread nD τ) ↦{fullShare} f)
          -∗ wp frame (wpE (defs₀ (F := F)) 𝒱₀ (c : Thread nD τ) none) Set.univ (kk fun _ => smv m f) Q)
        -∗ wp frame (wpE (defs₀ (F := F)) 𝒱₀ (c : Thread nD τ) none) Set.univ
            (.op (.load m (Rect.unit (s := S1) off S1.size inb).toLoadRect hl) kk) Q) := by
  have e : m.view.readAt (Elt F) (Rect.unit (s := S1) off S1.size inb).toLoadRect f = fun _ => smv m f :=
    funext fun x => congrArg (m.view.read (Elt F) f) (funext fun a => by
      match a with
      | ⟨0, _⟩ => exact Subsingleton.elim (α := Fin 1) _ _)
  have ek : kk (m.view.readAt (Elt F) (Rect.unit (s := S1) off S1.size inb).toLoadRect f) = kk fun _ => smv m f := congrArg kk e
  rw [← ek]
  exact wp_load (m := m) (r := (Rect.unit (s := S1) off S1.size inb).toLoadRect) (hl := hl) (S := Finset.univ) (q := fullShare) (f := f) (Q := Q)
    (k := kk) 𝒱₀ (c : Thread nD τ) none Set.univ (Finset.subset_univ _)

/-! ## The result -/

/-- The device's result, by blocks of rows: row block `o` is the scaled product of block `o` with the device's columns, cut off
    below at zero — the last one computed by halves. -/
def OUT (c : Dev nD) (s : F .f32) (W : S4096x1024.Idx → Elt F .fp8e4m3) : S4096x1024.Idx → Elt F .f32 := fun i =>
  if (i 0).val / 512 = (last c).val then
    gemmH s (halfOf ⟨(i 0).val % 512 / 256, by omega⟩ (X (last c))) W (ValueIdx.ix2 ⟨(i 0).val % 256, by omega⟩ (i 1))
  else gemm s (X ⟨(i 0).val / 512, by have : (i 0).val < 4096 := (i 0).isLt; show _ < 8; omega⟩) W (ValueIdx.ix2 ⟨(i 0).val % 512, by omega⟩ (i 1))

theorem OUT_block (c : Dev nD) (s : F .f32) (W : S4096x1024.Idx → Elt F .fp8e4m3) (o : Dev nD) (ho : o ≠ last c) (j : S512x1024.Idx) :
    OUT X c s W ((oR o).emb j) = gemm s (X o) W j := by
  have h0 : (((oR o).emb j) 0).val = 512 * o.val + 1 * (j 0).val := rfl
  have hj : (j 0).val < 512 := (j 0).isLt
  unfold OUT
  rw [if_neg (by rw [h0]; intro h; exact ho (Fin.ext (by omega)))]
  have e1 : (⟨(((oR o).emb j) 0).val / 512, by have : (((oR o).emb j) 0).val < 4096 := (((oR o).emb j) 0).isLt; show _ < 8; omega⟩ : Dev nD) = o :=
    Fin.ext (by show (((oR o).emb j) 0).val / 512 = _; rw [h0]; omega)
  rw [e1]
  congr 1
  funext a
  match a with
  | ⟨0, _⟩ => exact Fin.ext (by show (((oR o).emb j) 0).val % 512 = _; rw [h0]; show _ = (j 0).val; omega)
  | ⟨1, _⟩ => exact Fin.ext (by show 0 + 1 * (j 1).val = (j 1).val; omega)

theorem OUT_half (c : Dev nD) (s : F .f32) (W : S4096x1024.Idx → Elt F .fp8e4m3) (h : Fin 2) (j : S256x1024.Idx) :
    OUT X c s W ((ohR (last c) h).emb j) = gemmH s (halfOf h (X (last c))) W j := by
  have h0 : (((ohR (last c) h).emb j) 0).val = (512 * (last c).val + 256 * h.val) + 1 * (j 0).val := rfl
  have hj : (j 0).val < 256 := (j 0).isLt
  unfold OUT
  rw [if_pos (by rw [h0]; omega)]
  have e1 : (⟨(((ohR (last c) h).emb j) 0).val % 512 / 256, by omega⟩ : Fin 2) = h :=
    Fin.ext (by show (((ohR (last c) h).emb j) 0).val % 512 / 256 = _; rw [h0]; omega)
  rw [e1]
  congr 1
  funext a
  match a with
  | ⟨0, _⟩ => exact Fin.ext (by show (((ohR (last c) h).emb j) 0).val % 256 = _; rw [h0]; show _ = (j 0).val; omega)
  | ⟨1, _⟩ => exact Fin.ext (by show 0 + 1 * (j 1).val = (j 1).val; omega)

theorem off1_self (c : Dev nD) : k0_off1 c = ![512 * c.val, 0] := by revert c; decide +kernel
theorem ne_last (c : Dev nD) : c ≠ last c ∧ left c ≠ last c ∧ right c ≠ last c ∧ partner c ≠ last c ∧ left (left c) ≠ last c
    ∧ right (right c) ≠ last c ∧ opposite c ≠ last c := by revert c; decide +kernel

/-! ## Before the exchange -/

/-- What device `c` owes at the start: a unit at each neighbour's barrier, and every transfer's credit. -/
def O₂ (c : Dev nD) : CellTallies nD τ sig Unit := owed c 0 + tallyAt (barCell (partner c)) () 1
def O₁ (c : Dev nD) : CellTallies nD τ sig Unit := O₂ c + tallyAt (barCell (right c)) () 1
def O₀ (c : Dev nD) : CellTallies nD τ sig Unit := O₁ c + tallyAt (barCell (left c)) () 1

/-- A transfer's tokens and position before its sender knows the place it writes is free. -/
def unarmed (c : Dev nD) (k : Fin 26) : sProp 𝕄 :=
  iprop(dutyTok ER (sendCell c k) 0 0 ∗ dutyTok ER (recvCell (tgt c k) k) 0 0 ∗ atPos ER (sendCell c k) 0 ∅ 0)

/-- What device `c` starts with: every invariant, its tokens, its positions, the credit at its own semaphores, the places its
    neighbours write and what it owes. -/
def begins (c : Dev nD) : sProp 𝕄 :=
  iprop(records X K ∗ levAts L lv ∗ (bigSep Finset.univ fun k => unarmed (F := F) c k) ∗ (bigSep Finset.univ fun k => recvSt (F := F) c 0 k)
    ∗ (dutyTok ER (barCell (left c)) 0 0 ∗ dutyTok ER (barCell (right c)) 0 1 ∗ dutyTok ER (barCell (partner c)) 0 2)
    ∗ (bigSep Finset.univ fun k => slot (F := F) c k) ∗ atPos ER (barCell c) 0 ∅ 0 ∗ cred (tallyAt (barCell c) () 3)
    ∗ ∃ W, owes (c : Thread nD τ) (O₀ c) W)

theorem arm (c : Dev nD) :
    (iprop((bigSep Finset.univ fun k => unarmed (F := F) c k) ∗ (bigSep Finset.univ fun k => slot (F := F) (tgt c k) k)) : sProp 𝕄)
      ⊢ bigSep Finset.univ fun k => sendSt X c 0 0 k := by
  rw [← bigSep_sep']
  refine bigSep_mono fun k _ => ?_
  unfold sendSt unarmed
  rw [if_neg (Nat.not_lt_zero _), if_pos (Nat.zero_le _)]
  unfold armed
  show (iprop((dutyTok ER (sendCell c k) 0 0 ∗ dutyTok ER (recvCell (tgt c k) k) 0 0 ∗ atPos ER (sendCell c k) 0 ∅ 0) ∗ slot (tgt c k) k) : sProp 𝕄) ⊢ iprop(dutyTok ER (sendCell c k) 0 0 ∗ dutyTok ER (recvCell (tgt c k) k) 0 0 ∗ slot (tgt c k) k ∗ atPos ER (sendCell c k) 0 ∅ 0)
  iintro ⟨⟨H1, H2, H3⟩, H4⟩
  isplitl [H1]; · iexact H1
  isplitl [H2]; · iexact H2
  isplitl [H4] <;> iassumption

theorem part1_wp {α : Type} {Q : α → sProp 𝕄} {kk : _ → Prog (TpuEff nD τ sig (Elt F) Λ₀ .tc) α} (c : Dev nD) :
    iprop(∀ v2 v23 v25 v26 v37 v39, wp frame (wpE (defs₀ (F := F)) 𝒱₀ (c : Thread nD τ) none) Set.univ (kk ⟨c, v2, v23, v25, v26, v37, v39⟩) Q) ⊢ (wp frame (wpE (defs₀ (F := F)) 𝒱₀ (c : Thread nD τ) none) Set.univ (k0_part1 (F := F) xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 >>= kk) Q : sProp 𝕄) := by
  rw [wp_bind, k0_part1_eq_skeleton]; unfold k0_part1_skel
  simp only [Prog.lift, Prog.bind_op, Prog.bind_ret, Prog.pure_eq_ret, wp_deviceId]
  iintro Hk
  rw [wp_ret]; imodintro
  iapply Hk

theorem part2_wp {α : Type} {Q : α → sProp 𝕄} {kk : _ → Prog (TpuEff nD τ sig (Elt F) Λ₀ .tc) α} (c : Dev nD) (v23 v25 v26 : BitVec 32) (v37 v39 : BitVec 1) :
    iprop(∀ v46 v70 v71 v73 v77 v, wp frame (wpE (defs₀ (F := F)) 𝒱₀ (c : Thread nD τ) none) Set.univ (kk ⟨v46, v70, v71, v73, v77, v⟩) Q) ⊢ (wp frame (wpE (defs₀ (F := F)) 𝒱₀ (c : Thread nD τ) none) Set.univ (k0_part2 (F := F) xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 v23 v25 v26 v37 v39 >>= kk) Q : sProp 𝕄) := by
  rw [wp_bind, k0_part2_eq_skeleton]; unfold k0_part2_skel
  simp only [Prog.lift, Prog.bind_op, Prog.bind_ret, Prog.pure_eq_ret]
  iintro Hk
  rw [wp_ret]; imodintro
  iapply Hk

/-- The three signals and the wait for three. -/
theorem part3_wp {α : Type} {Q : α → sProp 𝕄} {kk : _ → Prog (TpuEff nD τ sig (Elt F) Λ₀ .tc) α} (c : Dev nD) (v46 v70 v71 v77 v : BitVec 32) :
    iprop(begins X K c ∗ hold c xM Finset.univ fullShare (X c))
      ⊢ iprop((∀ v98 v99 v100, (St X K c 0 0 0 ∗ semVal (barCell c) 0 ∗ hold c xM Finset.univ fullShare (X c)) -∗ wp frame (wpE (defs₀ (F := F)) 𝒱₀ (c : Thread nD τ) none) Set.univ (kk ⟨v98, v99, v100, qtr 0 (X c)⟩) Q)
        -∗ wp frame (wpE (defs₀ (F := F)) 𝒱₀ (c : Thread nD τ) none) Set.univ (k0_part3 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v71 v77 v >>= kk) Q) := by
  rw [wp_bind, k0_part3_eq_skeleton]; unfold k0_part3_skel
  simp only [semSignalWord, semWaitWord, Prog.lift, Prog.bind_op, Prog.bind_ret, Prog.pure_eq_ret]
  unfold begins
  rw [slots_deal]
  simp only [dev1_eq c, dev2_eq c, dev3_eq c]
  iintro ⟨⟨#HI, #Hlev, HS, HR, ⟨Ht0, Ht1, Ht2⟩, ⟨Hp0, Hp1, Hp2⟩, Hat, Hc, %W, HO⟩, Hx⟩ Hk
  ihave H0 := (records_bar X K (left c)) $$ HI
  icases H0 with ⟨#HI0, #Hr0⟩
  ihave H1 := (records_bar X K (right c)) $$ HI
  icases H1 with ⟨#HI1, #Hr1⟩
  ihave H2 := (records_bar X K (partner c)) $$ HI
  icases H2 with ⟨#HI2, #Hr2⟩
  ihave H3 := (records_bar X K c) $$ HI
  icases H3 with ⟨#HI3, #Hr3⟩
  iapply (Rounds.wp_signal 𝒱₀ ER (Rd X) (c : Thread nD τ) none (dst := (left c : Thread nD τ)) (κ := K (left c, 0))
      (d := 0) (by rw [duties_bar]; exact Finset.mem_univ _) ((amount_bar X (left c) 0).trans (by decide)) () (O₁ c) rfl)
    $$ [HO Ht0 Hp0]
  · isplitr; · iexact HI0
    isplitl [HO]; · iexact HO
    isplitl [Ht0]; · iexact Ht0
    isplitl [Hp0]; · rw [payload_bar]; iexact Hp0
    iexact Hr0
  iintro HO
  unfold O₁
  iapply (Rounds.wp_signal 𝒱₀ ER (Rd X) (c : Thread nD τ) none (dst := (right c : Thread nD τ)) (κ := K (right c, 0))
      (d := 1) (by rw [duties_bar]; exact Finset.mem_univ _) ((amount_bar X (right c) 1).trans (by decide)) () (O₂ c) rfl)
    $$ [HO Ht1 Hp1]
  · isplitr; · iexact HI1
    isplitl [HO]; · iexact HO
    isplitl [Ht1]; · iexact Ht1
    isplitl [Hp1]; · rw [payload_bar]; iexact Hp1
    iexact Hr1
  iintro HO
  unfold O₂
  iapply (Rounds.wp_signal 𝒱₀ ER (Rd X) (c : Thread nD τ) none (dst := (partner c : Thread nD τ)) (κ := K (partner c, 0))
      (d := 2) (by rw [duties_bar]; exact Finset.mem_univ _) ((amount_bar X (partner c) 2).trans (by decide)) () (owed c 0) rfl)
    $$ [HO Ht2 Hp2]
  · isplitr; · iexact HI2
    isplitl [HO]; · iexact HO
    isplitl [Ht2]; · iexact Ht2
    isplitl [Hp2]; · rw [payload_bar]; iexact Hp2
    iexact Hr2
  iintro HO
  iapply (Rounds.wp_wait_rest_token 𝒱₀ ER (Rd X) (c : Thread nD τ) none (κ := K (c, 0))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iexact HI3
    isplitl [Hc]; · iexact Hc
    isplitl [HO]; · iexact HO
    isplitr
    · iapply (mayWait_owed c 0 (.reg barS) fun k' _ => by
        have h : lv ((c : Thread nD τ), .reg barS) () = 1 := by unfold lv; rw [role_bar]
        rw [h]; unfold lvR; split; · decide
        split <;> decide)
      iexact Hlev
    iexact Hat
  iintro ⟨HO, Hat, -, Hpay⟩
  imod (Rounds.cell_close ER (Rd X) (Set.mem_univ (K (c, 0))) (fun h => h) (R := 0 + 1) (duties_later X (barCell c))) $$ [Hat] with Hz
  · isplitr; · iexact HI3
    iexact Hat
  ihave Hpay := (Entails.of_eq (rest_bar X c)) $$ Hpay
  ihave HS := (arm X c) $$ [HS Hpay]
  · isplitl [HS] <;> iassumption
  iapply (hold_load c xM (Finset.subset_univ _) (qtr 0 (X c)) rfl) $$ Hx
  iintro Hx
  rw [k0_pay1, shapeCast_self, wp_ret]
  imodintro
  iapply Hk
  isplitr [Hz Hx]
  · unfold St Proto
    isplitr; · iexact HI
    isplitr; · iexact Hlev
    isplitl [HS]; · iexact HS
    isplitl [HR]; · iexact HR
    iexists _; iexact HO
  isplitl [Hz] <;> iassumption

end Cert.RingProof
-- ==== Proof.Own.lean ====
/-
# The body: the device's own block

The device sends its own block to its neighbours quarter by quarter, and computes its own rows of the result.
-/
module

public import proofs.«01_k».proof.Proof.Entry
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3) (K : Dev nD × Fin 53 → ℕ)

theorem whole_set {s : Shape} {off : Fin s.rank → ℕ} (h : ∀ a, off a = 0) {inb : ∀ a, off a + s.size a ≤ s.size a} :
    (Rect.unit (s := s) off s.size inb).set = Finset.univ :=
  Finset.eq_univ_iff_forall.mpr fun y => by
    rw [← Rect.map_emb_univ]
    exact Finset.mem_map.mpr ⟨y, Finset.mem_univ _, idx_whole h (inb := inb) y⟩

/-- A store of the whole of a buffer one has room in leaves it at what was stored. -/
theorem whole_store {α : Type} {Q : α → sProp 𝕄} {c : Dev nD} {s : Shape} {e : EltTy} (m : Memref sig .tc .vmem s e)
    {off : Fin s.rank → ℕ} (h : ∀ a, off a = 0) {inb : ∀ a, off a + s.size a ≤ s.size a} (Y : s.Idx → Elt F e) {w : s.Idx → Elt F e} (hw : w = Y)
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {kk : PUnit → Prog (TpuEff nD τ sig (Elt F) Λ₀ .tc) α} :
    (room c m Finset.univ : sProp 𝕄)
      ⊢ iprop((hold c m Finset.univ fullShare Y -∗ wp frame (wpE (defs₀ (F := F)) 𝒱₀ (c : Thread nD τ) none) Set.univ (kk ⟨⟩) Q)
        -∗ wp frame (wpE (defs₀ (F := F)) 𝒱₀ (c : Thread nD τ) none) Set.univ
            (.op (.store m (Rect.unit (s := s) off s.size inb) w Finset.univ hx hm) kk) Q) := by
  subst hw
  have hu := whole_set h (inb := inb)
  have key := room_store (Q := Q) (k := kk) (hx := hx) (hm := hm) c m (r := Rect.unit (s := s) off s.size inb) (w := w) w
    (fun j => congrArg w (idx_whole h (inb := inb) j))
  rwa [hu] at key

/-- Quarter 0 of the device's block: copied into the buffer, and sent left, right and across. -/
theorem part4_wp {α : Type} {Q : α → sProp 𝕄} {kk : _ → Prog (TpuEff nD τ sig (Elt F) Λ₀ .tc) α} (c : Dev nD) (v46 v70 v98 : BitVec 32) :
    iprop(St X K c 0 0 0 ∗ hold c xM Finset.univ fullShare (X c) ∗ room c own8M (qR 0).set)
      ⊢ iprop(((St X K c 3 0 0 ∗ hold c xM Finset.univ fullShare (X c) ∗ keepO X c (qR 0).set) -∗ wp frame (wpE (defs₀ (F := F)) 𝒱₀ (c : Thread nD τ) none) Set.univ (kk (qtr 1 (X c))) Q)
        -∗ wp frame (wpE (defs₀ (F := F)) 𝒱₀ (c : Thread nD τ) none) Set.univ (k0_part4 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 (qtr 0 (X c)) >>= kk) Q) := by
  rw [wp_bind, k0_part4_eq_skeleton]; unfold k0_part4_skel
  simp only [Prog.lift, Prog.bind_op, Prog.bind_ret, Prog.pure_eq_ret]
  iintro ⟨HS, Hx, Ho⟩ Hk
  iapply (room_load c own8M (S := (qR 0).set) (Finset.Subset.refl _)) $$ Ho
  iintro %_ Ho
  iapply (room_store c own8M (r := qR 0) (X c) (fun j => by rw [k0_pay2, shapeCast_self]; rfl)) $$ Ho
  iintro Ho
  ihave Ho := (Entails.of_eq (own_cut X c 0)) $$ Ho
  icases Ho with ⟨⟨HA, HB⟩, HC, Hkeep⟩
  iapply (send_rows X K 0 (dev4_eq c) (n := 0) (r := 0) rfl own8M l1M (qR 0) rfl rfl rfl (by decide) rfl rfl rfl) $$ [HS HA]
  · isplitl [HS]; · iexact HS
    iexact HA
  iintro HS
  iapply (send_rows X K 4 (dev5_eq c) (n := 1) (r := 0) rfl own8M r1M (qR 0) rfl rfl rfl (by decide) rfl rfl rfl) $$ [HS HB]
  · isplitl [HS]; · iexact HS
    iexact HB
  iintro HS
  iapply (send_rows X K 8 (dev6_eq c) (n := 2) (r := 0) rfl own8M c1M (qR 0) rfl rfl rfl (by decide) rfl rfl rfl) $$ [HS HC]
  · isplitl [HS]; · iexact HS
    iexact HC
  iintro HS
  iapply (hold_load c xM (Finset.subset_univ _) (qtr 1 (X c)) rfl) $$ Hx
  iintro Hx
  rw [k0_pay3, shapeCast_self, wp_ret]
  imodintro; iapply Hk
  isplitl [HS]; · iexact HS
  isplitl [Hx] <;> iassumption

/-- Quarter 1 of the device's block: copied into the buffer, and sent left, right and across. -/
theorem part5_wp {α : Type} {Q : α → sProp 𝕄} {kk : _ → Prog (TpuEff nD τ sig (Elt F) Λ₀ .tc) α} (c : Dev nD) (v46 v70 v98 : BitVec 32) :
    iprop(St X K c 3 0 0 ∗ hold c xM Finset.univ fullShare (X c) ∗ room c own8M (qR 1).set)
      ⊢ iprop(((St X K c 6 0 0 ∗ hold c xM Finset.univ fullShare (X c) ∗ keepO X c (qR 1).set) -∗ wp frame (wpE (defs₀ (F := F)) 𝒱₀ (c : Thread nD τ) none) Set.univ (kk (qtr 2 (X c))) Q)
        -∗ wp frame (wpE (defs₀ (F := F)) 𝒱₀ (c : Thread nD τ) none) Set.univ (k0_part5 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 (qtr 1 (X c)) >>= kk) Q) := by
  rw [wp_bind, k0_part5_eq_skeleton]; unfold k0_part5_skel
  simp only [Prog.lift, Prog.bind_op, Prog.bind_ret, Prog.pure_eq_ret]
  iintro ⟨HS, Hx, Ho⟩ Hk
  iapply (room_load c own8M (S := (qR 1).set) (Finset.Subset.refl _)) $$ Ho
  iintro %_ Ho
  iapply (room_store c own8M (r := qR 1) (X c) (fun j => by rw [k0_pay4, shapeCast_self]; rfl)) $$ Ho
  iintro Ho
  ihave Ho := (Entails.of_eq (own_cut X c 1)) $$ Ho
  icases Ho with ⟨⟨HA, HB⟩, HC, Hkeep⟩
  iapply (send_rows X K 1 (dev7_eq c) (n := 3) (r := 0) rfl own8M l1M (qR 1) rfl rfl rfl (by decide) rfl rfl rfl) $$ [HS HA]
  · isplitl [HS]; · iexact HS
    iexact HA
  iintro HS
  iapply (send_rows X K 5 (dev8_eq c) (n := 4) (r := 0) rfl own8M r1M (qR 1) rfl rfl rfl (by decide) rfl rfl rfl) $$ [HS HB]
  · isplitl [HS]; · iexact HS
    iexact HB
  iintro HS
  iapply (send_rows X K 9 (dev9_eq c) (n := 5) (r := 0) rfl own8M c1M (qR 1) rfl rfl rfl (by decide) rfl rfl rfl) $$ [HS HC]
  · isplitl [HS]; · iexact HS
    iexact HC
  iintro HS
  iapply (hold_load c xM (Finset.subset_univ _) (qtr 2 (X c)) rfl) $$ Hx
  iintro Hx
  rw [wp_ret]
  imodintro; iapply Hk
  isplitl [HS]; · iexact HS
  isplitl [Hx] <;> iassumption

/-- Quarter 2 of the device's block: copied into the buffer, and sent left, right and across. -/
theorem part6_wp {α : Type} {Q : α → sProp 𝕄} {kk : _ → Prog (TpuEff nD τ sig (Elt F) Λ₀ .tc) α} (c : Dev nD) (v46 v70 v98 : BitVec 32) :
    iprop(St X K c 6 0 0 ∗ hold c xM Finset.univ fullShare (X c) ∗ room c own8M (qR 2).set)
      ⊢ iprop(((St X K c 9 0 0 ∗ hold c xM Finset.univ fullShare (X c) ∗ keepO X c (qR 2).set) -∗ wp frame (wpE (defs₀ (F := F)) 𝒱₀ (c : Thread nD τ) none) Set.univ (kk ⟨⟩) Q)
        -∗ wp frame (wpE (defs₀ (F := F)) 𝒱₀ (c : Thread nD τ) none) Set.univ (k0_part6 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 (qtr 2 (X c)) >>= kk) Q) := by
  rw [wp_bind, k0_part6_eq_skeleton]; unfold k0_part6_skel
  simp only [Prog.lift, Prog.bind_op, Prog.bind_ret, Prog.pure_eq_ret]
  iintro ⟨HS, Hx, Ho⟩ Hk
  iapply (room_load c own8M (S := (qR 2).set) (Finset.Subset.refl _)) $$ Ho
  iintro %_ Ho
  iapply (room_store c own8M (r := qR 2) (X c) (fun j => by rw [k0_pay5, shapeCast_self, shapeCast_self]; rfl)) $$ Ho
  iintro Ho
  ihave Ho := (Entails.of_eq (own_cut X c 2)) $$ Ho
  icases Ho with ⟨⟨HA, HB⟩, HC, Hkeep⟩
  iapply (send_rows X K 2 (dev10_eq c) (n := 6) (r := 0) rfl own8M l1M (qR 2) rfl rfl rfl (by decide) rfl rfl rfl) $$ [HS HA]
  · isplitl [HS]; · iexact HS
    iexact HA
  iintro HS
  iapply (send_rows X K 6 (dev11_eq c) (n := 7) (r := 0) rfl own8M r1M (qR 2) rfl rfl rfl (by decide) rfl rfl rfl) $$ [HS HB]
  · isplitl [HS]; · iexact HS
    iexact HB
  iintro HS
  iapply (send_rows X K 10 (dev12_eq c) (n := 8) (r := 0) rfl own8M c1M (qR 2) rfl rfl rfl (by decide) rfl rfl rfl) $$ [HS HC]
  · isplitl [HS]; · iexact HS
    iexact HC
  iintro HS
  rw [wp_ret]
  imodintro; iapply Hk
  isplitl [HS]; · iexact HS
  isplitl [Hx] <;> iassumption

/-- Quarter 3 of the device's block: copied into the buffer, and sent left, right and across. -/
theorem part7_wp {α : Type} {Q : α → sProp 𝕄} {kk : _ → Prog (TpuEff nD τ sig (Elt F) Λ₀ .tc) α} (c : Dev nD) (v46 v70 v98 : BitVec 32) :
    iprop(St X K c 9 0 0 ∗ hold c xM Finset.univ fullShare (X c) ∗ room c own8M (qR 3).set)
      ⊢ iprop(((St X K c 12 0 0 ∗ hold c xM Finset.univ fullShare (X c) ∗ keepO X c (qR 3).set) -∗ wp frame (wpE (defs₀ (F := F)) 𝒱₀ (c : Thread nD τ) none) Set.univ (kk ⟨⟩) Q)
        -∗ wp frame (wpE (defs₀ (F := F)) 𝒱₀ (c : Thread nD τ) none) Set.univ (k0_part7 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98  >>= kk) Q) := by
  rw [wp_bind, k0_part7_eq_skeleton]; unfold k0_part7_skel
  simp only [Prog.lift, Prog.bind_op, Prog.bind_ret, Prog.pure_eq_ret]
  iintro ⟨HS, Hx, Ho⟩ Hk
  iapply (hold_load c xM (Finset.subset_univ _) (qtr 3 (X c)) rfl) $$ Hx
  iintro Hx
  iapply (room_load c own8M (S := (qR 3).set) (Finset.Subset.refl _)) $$ Ho
  iintro %_ Ho
  iapply (room_store c own8M (r := qR 3) (X c) (fun j => by rw [k0_pay6, shapeCast_self, shapeCast_self]; rfl)) $$ Ho
  iintro Ho
  ihave Ho := (Entails.of_eq (own_cut X c 3)) $$ Ho
  icases Ho with ⟨⟨HA, HB⟩, HC, Hkeep⟩
  iapply (send_rows X K 3 (dev13_eq c) (n := 9) (r := 0) rfl own8M l1M (qR 3) rfl rfl rfl (by decide) rfl rfl rfl) $$ [HS HA]
  · isplitl [HS]; · iexact HS
    iexact HA
  iintro HS
  iapply (send_rows X K 7 (dev14_eq c) (n := 10) (r := 0) rfl own8M r1M (qR 3) rfl rfl rfl (by decide) rfl rfl rfl) $$ [HS HB]
  · isplitl [HS]; · iexact HS
    iexact HB
  iintro HS
  iapply (send_rows X K 11 (dev15_eq c) (n := 11) (r := 0) rfl own8M c1M (qR 3) rfl rfl rfl (by decide) rfl rfl rfl) $$ [HS HC]
  · isplitl [HS]; · iexact HS
    iexact HC
  iintro HS
  rw [wp_ret]
  imodintro; iapply Hk
  isplitl [HS]; · iexact HS
  isplitl [Hx] <;> iassumption

/-- The device's columns and the scale are read, the device's own rows of the result computed, and the first quarter from the left
    waited for. -/
theorem part8_wp {α : Type} {Q : α → sProp 𝕄} {kk : _ → Prog (TpuEff nD τ sig (Elt F) Λ₀ .tc) α} (c : Dev nD) (v2 v46 : BitVec 32)
    (W : S4096x1024.Idx → Elt F .fp8e4m3) (f : sxM.view.ty.Contents (Elt F)) (g : swM.view.ty.Contents (Elt F)) :
    iprop(St X K c 12 0 0 ∗ hold c wM Finset.univ fullShare W ∗ (sxM.view.loc (c : Thread nD τ) ↦{fullShare} f) ∗ (swM.view.loc (c : Thread nD τ) ↦{fullShare} g)
        ∗ room c w8M Finset.univ ∗ hold c own8M Finset.univ fullShare.right.right (X c) ∗ room c outM (oR c).set)
      ⊢ iprop(((St X K c 12 1 0 ∗ recvPay X c 0 ∗ hold c wM Finset.univ fullShare W ∗ (sxM.view.loc (c : Thread nD τ) ↦{fullShare} f)
          ∗ (swM.view.loc (c : Thread nD τ) ↦{fullShare} g) ∗ hold c w8M Finset.univ fullShare W ∗ hold c own8M Finset.univ fullShare.right.right (X c)
          ∗ hold c outM (oR c).set fullShare (OUT X c (k0_pay8 (smv sxM f) (smv swM g)) W)) -∗ wp frame (wpE (defs₀ (F := F)) 𝒱₀ (c : Thread nD τ) none) Set.univ (kk (k0_pay8 (smv sxM f) (smv swM g))) Q)
        -∗ wp frame (wpE (defs₀ (F := F)) 𝒱₀ (c : Thread nD τ) none) Set.univ (k0_part8 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v2 v46 >>= kk) Q) := by
  rw [wp_bind, k0_part8_eq_skeleton]; unfold k0_part8_skel
  simp only [smemLoad, smemLoadElt, Prog.lift, Prog.bind_op, Prog.bind_ret, Prog.pure_eq_ret]
  iintro ⟨HS, Hw, Hf, Hg, H8, Ho, Hout⟩ Hk
  iapply (whole_load wM (by decide)) $$ Hw
  iintro Hw
  iapply (room_load c w8M (Finset.subset_univ _)) $$ H8
  iintro %_ H8
  iapply (whole_store w8M (by decide) W (by rw [k0_pay7, shapeCast_self, shapeCast_self])) $$ H8
  iintro H8
  iapply (smem_step c sxM f) $$ Hf
  iintro Hf
  iapply (smem_step c swM g) $$ Hg
  iintro Hg
  iapply (whole_load own8M (by decide)) $$ Ho
  iintro Ho
  iapply (whole_load w8M (by decide)) $$ H8
  iintro H8
  iapply (out_put c (off1_self c) (OUT X c (k0_pay8 (smv sxM f) (smv swM g)) W) (fun j => OUT_block X c _ W c (ne_last c).1 j)) $$ Hout
  iintro Hout
  iapply (recv_rows X K 0 12 0 (s := 0) rfl (wait_ok c 0) l1M (qR 0) rfl rfl) $$ HS
  iintro ⟨HS, Hp⟩
  rw [wp_ret]; imodintro; iapply Hk
  isplitl [HS]; · iexact HS
  isplitl [Hp]; · iexact Hp
  isplitl [Hw]; · iexact Hw
  isplitl [Hf]; · iexact Hf
  isplitl [Hg]; · iexact Hg
  isplitl [H8]; · iexact H8
  isplitl [Ho] <;> iassumption

end Cert.RingProof
-- ==== Proof.Relay.lean ====
/-
# The body: passing the neighbours' blocks on

Each quarter that arrives from the left is passed on to the right's side and each from the right to the left's, and one of the two
parities of devices passes it across.
-/
module

public import proofs.«01_k».proof.Proof.Own

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3) (K : Dev nD × Fin 53 → ℕ)

theorem ord_even (c : Dev nD) (q : Fin 4) : even c = true → ord c (kC2 q) = 13 + 3 * q.val := by revert c q; decide +kernel
theorem ord_odd (c : Dev nD) (q : Fin 4) : (!even c) = true → ord c (kC2 q) = 13 + 3 * q.val + ev c + 1 := by revert c q; decide +kernel
theorem src_even (c : Dev nD) (q : Fin 4) : even c = true → srcM c (kC2 q) = l1M := fun h => by fin_cases q <;> exact if_pos h
theorem src_odd (c : Dev nD) (q : Fin 4) : (!even c) = true → srcM c (kC2 q) = r1M := fun h => by
  have h' : ¬ even c = true := by cases e : even c <;> simp_all
  fin_cases q <;> exact if_neg h'
theorem tgt_C2 (c : Dev nD) (q : Fin 4) : tgt c (kC2 q) = partner c := by revert c q; decide +kernel
theorem dst_C2 (q : Fin 4) : dstM (kC2 q) = c2M := by fin_cases q <;> rfl
theorem rows_C2 (q : Fin 4) : rowsOf (kC2 q) = (qR q).set := by fin_cases q <;> rfl
/-- A quarter of the left neighbour's block passed across, where the device is even. -/
theorem cond_left {α : Type} {Q : α → sProp 𝕄} {kk : PUnit → Prog (TpuEff nD τ sig (Elt F) Λ₀ .tc) α} {c : Dev nD} {p : Prop} {hdec : Decidable p} {c' : p → Dev nD}
    (q : Fin 4) (hp : p ↔ even c = true) (hc' : ∀ h, c' h = partner c) (n m : ℕ) {r : ℕ} (hn : n = 13 + 3 * q.val) (hm : m = 13 + 3 * q.val + ev c)
    {hs hd : ∀ a, (qR q).stride a = 1} {sS sR : DmaSem sig} (hS : sS = dS (kC2 q)) (hR : sR = dR (kC2 q))
    {hsc : ∀ h, ((c2M.slice (qR q) hd) : Memref sig (Dev.tc (c' h) : Thread nD τ).2.kind .vmem (qR q).shape .fp8e4m3).view.ref.isScScratch = false}
    {hsrc : (l1M.slice (qR q) hs).view.WordExact} {hdst : (c2M.slice (qR q) hd).view.WordExact}
    {hsem : ∀ h, DmaTarget.Typed .vmem (.dma sR) (.remote (Dev.tc (c' h) : Thread nD τ) (c2M.slice (qR q) hd) (.dma sS) (hsc h))} :
    iprop(St X K c n r 0 ∗ spL X c q)
      ⊢ iprop(((St X K c m r 0 ∗ spare (even c) (spL X c q)) -∗ wp frame (wpE (defs₀ (F := F)) 𝒱₀ (c : Thread nD τ) none) Set.univ (kk ⟨⟩) Q)
        -∗ wp frame (wpE (defs₀ (F := F)) 𝒱₀ (c : Thread nD τ) none) Set.univ
            (if h : p then .op (.enqueueDma (l1M.slice (qR q) hs) (.remote (Dev.tc (c' h) : Thread nD τ) (c2M.slice (qR q) hd) (.dma sS) (hsc h)) (.dma sR) hsrc hdst (hsem h))
              kk else kk ⟨⟩) Q) := by
  subst hn hm
  exact cond_rows X K (kC2 q) (even c) hp (fun h => (hc' h).trans (tgt_C2 c q).symm) (ord_even c q) (by unfold ev; cases even c <;> simp <;> omega) l1M c2M (qR q)
    (src_even c q) (dst_C2 q) (rows_C2 q) (by show 20 + q.val < 24; omega) (fun h => send_even X c h q) (by fin_cases q <;> rfl) hS hR

/-- A quarter of the right neighbour's block passed across, where the device is odd. -/
theorem cond_right {α : Type} {Q : α → sProp 𝕄} {kk : PUnit → Prog (TpuEff nD τ sig (Elt F) Λ₀ .tc) α} {c : Dev nD} {p : Prop} {hdec : Decidable p} {c' : p → Dev nD}
    (q : Fin 4) (hp : p ↔ (!even c) = true) (hc' : ∀ h, c' h = partner c) (n m : ℕ) {r : ℕ} (hn : n = 13 + 3 * q.val + ev c + 1) (hm : m = 15 + 3 * q.val)
    {hs hd : ∀ a, (qR q).stride a = 1} {sS sR : DmaSem sig} (hS : sS = dS (kC2 q)) (hR : sR = dR (kC2 q))
    {hsc : ∀ h, ((c2M.slice (qR q) hd) : Memref sig (Dev.tc (c' h) : Thread nD τ).2.kind .vmem (qR q).shape .fp8e4m3).view.ref.isScScratch = false}
    {hsrc : (r1M.slice (qR q) hs).view.WordExact} {hdst : (c2M.slice (qR q) hd).view.WordExact}
    {hsem : ∀ h, DmaTarget.Typed .vmem (.dma sR) (.remote (Dev.tc (c' h) : Thread nD τ) (c2M.slice (qR q) hd) (.dma sS) (hsc h))} :
    iprop(St X K c n r 0 ∗ spR X c q)
      ⊢ iprop(((St X K c m r 0 ∗ spare (!even c) (spR X c q)) -∗ wp frame (wpE (defs₀ (F := F)) 𝒱₀ (c : Thread nD τ) none) Set.univ (kk ⟨⟩) Q)
        -∗ wp frame (wpE (defs₀ (F := F)) 𝒱₀ (c : Thread nD τ) none) Set.univ
            (if h : p then .op (.enqueueDma (r1M.slice (qR q) hs) (.remote (Dev.tc (c' h) : Thread nD τ) (c2M.slice (qR q) hd) (.dma sS) (hsc h)) (.dma sR) hsrc hdst (hsem h))
              kk else kk ⟨⟩) Q) := by
  subst hn hm
  exact cond_rows X K (kC2 q) (!even c) hp (fun h => (hc' h).trans (tgt_C2 c q).symm) (ord_odd c q) (by unfold ev; cases even c <;> simp <;> omega) r1M c2M (qR q)
    (src_odd c q) (dst_C2 q) (rows_C2 q) (by show 20 + q.val < 24; omega) (fun h => send_odd X c h q) (by fin_cases q <;> rfl) hS hR

theorem odd_iff {c : Dev nD} {p : Prop} (h : p ↔ even c = false) : p ↔ (!even c) = true := h.trans (by simp)

theorem part9_wp {α : Type} {Q : α → sProp 𝕄} {kk : _ → Prog (TpuEff nD τ sig (Elt F) Λ₀ .tc) α} (c : Dev nD) (v46 v70 v98 : BitVec 32) (v99 v100 : BitVec 1) :
    iprop(St X K c 12 1 0 ∗ recvPay X c 0)
      ⊢ iprop(((St X K c 15 2 0 ∗ spare (even c) (spL X c 0) ∗ keepL X c (qR 0).set ∗ spare (!even c) (spR X c 0) ∗ keepR X c (qR 0).set) -∗ wp frame (wpE (defs₀ (F := F)) 𝒱₀ (c : Thread nD τ) none) Set.univ (kk ⟨⟩) Q)
        -∗ wp frame (wpE (defs₀ (F := F)) 𝒱₀ (c : Thread nD τ) none) Set.univ (k0_part9 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 v99 v100 >>= kk) Q) := by
  rw [wp_bind, k0_part9_eq_skeleton]; unfold k0_part9_skel
  simp only [Prog.lift, Prog.bind_op, Prog.bind_ret, Prog.pure_eq_ret]
  iintro ⟨HS, Hp0⟩ Hk
  ihave Hp := (show (recvPay X c 0 : sProp 𝕄) ⊢ _ from Entails.of_eq (left_cut X c 0)) $$ Hp0
  icases Hp with ⟨⟨HA, HL0⟩, HkL0⟩
  iapply (send_rows X K 12 (dev16_eq c) (n := 12) (r := 1) rfl l1M l2M (qR 0) rfl rfl rfl (by decide) rfl rfl rfl) $$ [HS HA]
  · isplitl [HS]; · iexact HS
    iexact HA
  iintro HS
  iapply (@cond_left F _ X K _ _ _ c _ _ _ 0 (cond1_iff c) (fun h => dev17_eq c h) 13 (13 + ev c) 1 rfl rfl _ _ _ _ rfl rfl _ _ _ _) $$ [HS HL0]
  · isplitl [HS] <;> iassumption
  iintro ⟨HS, HL0⟩
  iapply (recv_rows X K 4 (13 + ev c) 1 (s := 0) rfl (wait_ok c 4) r1M (qR 0) rfl rfl) $$ HS
  iintro ⟨HS, Hp4⟩
  ihave Hp := (show (recvPay X c 4 : sProp 𝕄) ⊢ _ from Entails.of_eq (right_cut X c 0)) $$ Hp4
  icases Hp with ⟨⟨HA, HR0⟩, HkR0⟩
  iapply (send_rows X K 16 (dev18_eq c) (n := (13 + ev c)) (r := 2) rfl r1M r2M (qR 0) rfl rfl rfl (by decide) rfl rfl rfl) $$ [HS HA]
  · isplitl [HS]; · iexact HS
    iexact HA
  iintro HS
  iapply (@cond_right F _ X K _ _ _ c _ _ _ 0 (odd_iff (cond2_iff c)) (fun h => dev19_eq c h) (13 + ev c + 1) 15 2 rfl rfl _ _ _ _ rfl rfl _ _ _ _) $$ [HS HR0]
  · isplitl [HS] <;> iassumption
  iintro ⟨HS, HR0⟩
  rw [wp_ret]; imodintro; iapply Hk
  isplitl [HS]; · iexact HS
  isplitl [HL0]; · iexact HL0
  isplitl [HkL0]; · iexact HkL0
  isplitl [HR0]; · iexact HR0
  iexact HkR0

theorem part10_wp {α : Type} {Q : α → sProp 𝕄} {kk : _ → Prog (TpuEff nD τ sig (Elt F) Λ₀ .tc) α} (c : Dev nD) (v46 v70 v98 : BitVec 32) (v99 : BitVec 1) :
    iprop(St X K c 15 2 0)
      ⊢ iprop(((St X K c (16 + ev c) 4 0 ∗ spare (even c) (spL X c 1) ∗ keepL X c (qR 1).set ∗ recvPay X c 5) -∗ wp frame (wpE (defs₀ (F := F)) 𝒱₀ (c : Thread nD τ) none) Set.univ (kk ⟨⟩) Q)
        -∗ wp frame (wpE (defs₀ (F := F)) 𝒱₀ (c : Thread nD τ) none) Set.univ (k0_part10 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 v99 >>= kk) Q) := by
  rw [wp_bind, k0_part10_eq_skeleton]; unfold k0_part10_skel
  simp only [Prog.lift, Prog.bind_op, Prog.bind_ret, Prog.pure_eq_ret]
  iintro HS Hk
  iapply (recv_rows X K 1 15 2 (s := 0) rfl (wait_ok c 1) l1M (qR 1) rfl rfl) $$ HS
  iintro ⟨HS, Hp1⟩
  ihave Hp := (show (recvPay X c 1 : sProp 𝕄) ⊢ _ from Entails.of_eq (left_cut X c 1)) $$ Hp1
  icases Hp with ⟨⟨HA, HL1⟩, HkL1⟩
  iapply (send_rows X K 13 (dev20_eq c) (n := 15) (r := 3) rfl l1M l2M (qR 1) rfl rfl rfl (by decide) rfl rfl rfl) $$ [HS HA]
  · isplitl [HS]; · iexact HS
    iexact HA
  iintro HS
  iapply (@cond_left F _ X K _ _ _ c _ _ _ 1 (cond3_iff c) (fun h => dev21_eq c h) 16 (16 + ev c) 3 rfl rfl _ _ _ _ rfl rfl _ _ _ _) $$ [HS HL1]
  · isplitl [HS] <;> iassumption
  iintro ⟨HS, HL1⟩
  iapply (recv_rows X K 5 (16 + ev c) 3 (s := 0) rfl (wait_ok c 5) r1M (qR 1) rfl rfl) $$ HS
  iintro ⟨HS, Hp5⟩
  rw [wp_ret]; imodintro; iapply Hk
  isplitl [HS]; · iexact HS
  isplitl [HL1]; · iexact HL1
  isplitl [HkL1]; · iexact HkL1
  iexact Hp5

theorem part11_wp {α : Type} {Q : α → sProp 𝕄} {kk : _ → Prog (TpuEff nD τ sig (Elt F) Λ₀ .tc) α} (c : Dev nD) (v46 v70 v98 : BitVec 32) (v99 v100 : BitVec 1) :
    iprop(St X K c (16 + ev c) 4 0 ∗ recvPay X c 5)
      ⊢ iprop(((St X K c (19 + ev c) 6 0 ∗ spare (!even c) (spR X c 1) ∗ keepR X c (qR 1).set ∗ spare (even c) (spL X c 2) ∗ keepL X c (qR 2).set ∗ recvPay X c 6) -∗ wp frame (wpE (defs₀ (F := F)) 𝒱₀ (c : Thread nD τ) none) Set.univ (kk ⟨⟩) Q)
        -∗ wp frame (wpE (defs₀ (F := F)) 𝒱₀ (c : Thread nD τ) none) Set.univ (k0_part11 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 v99 v100 >>= kk) Q) := by
  rw [wp_bind, k0_part11_eq_skeleton]; unfold k0_part11_skel
  simp only [Prog.lift, Prog.bind_op, Prog.bind_ret, Prog.pure_eq_ret]
  iintro ⟨HS, Hp5⟩ Hk
  ihave Hp := (show (recvPay X c 5 : sProp 𝕄) ⊢ _ from Entails.of_eq (right_cut X c 1)) $$ Hp5
  icases Hp with ⟨⟨HA, HR1⟩, HkR1⟩
  iapply (send_rows X K 17 (dev22_eq c) (n := (16 + ev c)) (r := 4) rfl r1M r2M (qR 1) rfl rfl rfl (by decide) rfl rfl rfl) $$ [HS HA]
  · isplitl [HS]; · iexact HS
    iexact HA
  iintro HS
  iapply (@cond_right F _ X K _ _ _ c _ _ _ 1 (odd_iff (cond4_iff c)) (fun h => dev23_eq c h) (16 + ev c + 1) 18 4 rfl rfl _ _ _ _ rfl rfl _ _ _ _) $$ [HS HR1]
  · isplitl [HS] <;> iassumption
  iintro ⟨HS, HR1⟩
  iapply (recv_rows X K 2 18 4 (s := 0) rfl (wait_ok c 2) l1M (qR 2) rfl rfl) $$ HS
  iintro ⟨HS, Hp2⟩
  ihave Hp := (show (recvPay X c 2 : sProp 𝕄) ⊢ _ from Entails.of_eq (left_cut X c 2)) $$ Hp2
  icases Hp with ⟨⟨HA, HL2⟩, HkL2⟩
  iapply (send_rows X K 14 (dev24_eq c) (n := 18) (r := 5) rfl l1M l2M (qR 2) rfl rfl rfl (by decide) rfl rfl rfl) $$ [HS HA]
  · isplitl [HS]; · iexact HS
    iexact HA
  iintro HS
  iapply (@cond_left F _ X K _ _ _ c _ _ _ 2 (cond5_iff c) (fun h => dev25_eq c h) 19 (19 + ev c) 5 rfl rfl _ _ _ _ rfl rfl _ _ _ _) $$ [HS HL2]
  · isplitl [HS] <;> iassumption
  iintro ⟨HS, HL2⟩
  iapply (recv_rows X K 6 (19 + ev c) 5 (s := 0) rfl (wait_ok c 6) r1M (qR 2) rfl rfl) $$ HS
  iintro ⟨HS, Hp6⟩
  rw [wp_ret]; imodintro; iapply Hk
  isplitl [HS]; · iexact HS
  isplitl [HR1]; · iexact HR1
  isplitl [HkR1]; · iexact HkR1
  isplitl [HL2]; · iexact HL2
  isplitl [HkL2]; · iexact HkL2
  iexact Hp6

theorem part12_wp {α : Type} {Q : α → sProp 𝕄} {kk : _ → Prog (TpuEff nD τ sig (Elt F) Λ₀ .tc) α} (c : Dev nD) (v46 v70 v98 : BitVec 32) (v99 v100 : BitVec 1) :
    iprop(St X K c (19 + ev c) 6 0 ∗ recvPay X c 6)
      ⊢ iprop(((St X K c 22 7 0 ∗ spare (!even c) (spR X c 2) ∗ keepR X c (qR 2).set ∗ spL X c 3 ∗ keepL X c (qR 3).set) -∗ wp frame (wpE (defs₀ (F := F)) 𝒱₀ (c : Thread nD τ) none) Set.univ (kk ⟨⟩) Q)
        -∗ wp frame (wpE (defs₀ (F := F)) 𝒱₀ (c : Thread nD τ) none) Set.univ (k0_part12 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 v99 v100 >>= kk) Q) := by
  rw [wp_bind, k0_part12_eq_skeleton]; unfold k0_part12_skel
  simp only [Prog.lift, Prog.bind_op, Prog.bind_ret, Prog.pure_eq_ret]
  iintro ⟨HS, Hp6⟩ Hk
  ihave Hp := (show (recvPay X c 6 : sProp 𝕄) ⊢ _ from Entails.of_eq (right_cut X c 2)) $$ Hp6
  icases Hp with ⟨⟨HA, HR2⟩, HkR2⟩
  iapply (send_rows X K 18 (dev26_eq c) (n := (19 + ev c)) (r := 6) rfl r1M r2M (qR 2) rfl rfl rfl (by decide) rfl rfl rfl) $$ [HS HA]
  · isplitl [HS]; · iexact HS
    iexact HA
  iintro HS
  iapply (@cond_right F _ X K _ _ _ c _ _ _ 2 (odd_iff (cond6_iff c)) (fun h => dev27_eq c h) (19 + ev c + 1) 21 6 rfl rfl _ _ _ _ rfl rfl _ _ _ _) $$ [HS HR2]
  · isplitl [HS] <;> iassumption
  iintro ⟨HS, HR2⟩
  iapply (recv_rows X K 3 21 6 (s := 0) rfl (wait_ok c 3) l1M (qR 3) rfl rfl) $$ HS
  iintro ⟨HS, Hp3⟩
  ihave Hp := (show (recvPay X c 3 : sProp 𝕄) ⊢ _ from Entails.of_eq (left_cut X c 3)) $$ Hp3
  icases Hp with ⟨⟨HA, HL3⟩, HkL3⟩
  iapply (send_rows X K 15 (dev28_eq c) (n := 21) (r := 7) rfl l1M l2M (qR 3) rfl rfl rfl (by decide) rfl rfl rfl) $$ [HS HA]
  · isplitl [HS]; · iexact HS
    iexact HA
  iintro HS
  rw [wp_ret]; imodintro; iapply Hk
  isplitl [HS]; · iexact HS
  isplitl [HR2]; · iexact HR2
  isplitl [HkR2]; · iexact HkR2
  isplitl [HL3]; · iexact HL3
  iexact HkL3

theorem part13_wp {α : Type} {Q : α → sProp 𝕄} {kk : _ → Prog (TpuEff nD τ sig (Elt F) Λ₀ .tc) α} (c : Dev nD) (v23 v70 v98 : BitVec 32) (v100 : BitVec 1) :
    iprop(St X K c 22 7 0 ∗ spL X c 3)
      ⊢ iprop((∀ w1 w2 w3 w4 w5 w6, (St X K c 24 8 0 ∗ spare (even c) (spL X c 3) ∗ spare (!even c) (spR X c 3) ∗ keepR X c (qR 3).set) -∗ wp frame (wpE (defs₀ (F := F)) 𝒱₀ (c : Thread nD τ) none) Set.univ (kk ⟨w1, w2, w3, w4, w5, w6⟩) Q)
        -∗ wp frame (wpE (defs₀ (F := F)) 𝒱₀ (c : Thread nD τ) none) Set.univ (k0_part13 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v23 v70 v98 v100 >>= kk) Q) := by
  rw [wp_bind, k0_part13_eq_skeleton]; unfold k0_part13_skel
  simp only [Prog.lift, Prog.bind_op, Prog.bind_ret, Prog.pure_eq_ret]
  iintro ⟨HS, HL3⟩ Hk
  iapply (@cond_left F _ X K _ _ _ c _ _ _ 3 (cond7_iff c) (fun h => dev29_eq c h) 22 (22 + ev c) 7 rfl rfl _ _ _ _ rfl rfl _ _ _ _) $$ [HS HL3]
  · isplitl [HS] <;> iassumption
  iintro ⟨HS, HL3⟩
  iapply (recv_rows X K 7 (22 + ev c) 7 (s := 0) rfl (wait_ok c 7) r1M (qR 3) rfl rfl) $$ HS
  iintro ⟨HS, Hp7⟩
  ihave Hp := (show (recvPay X c 7 : sProp 𝕄) ⊢ _ from Entails.of_eq (right_cut X c 3)) $$ Hp7
  icases Hp with ⟨⟨HA, HR3⟩, HkR3⟩
  iapply (send_rows X K 19 (dev30_eq c) (n := (22 + ev c)) (r := 8) rfl r1M r2M (qR 3) rfl rfl rfl (by decide) rfl rfl rfl) $$ [HS HA]
  · isplitl [HS]; · iexact HS
    iexact HA
  iintro HS
  iapply (@cond_right F _ X K _ _ _ c _ _ _ 3 (odd_iff (cond8_iff c)) (fun h => dev31_eq c h) (22 + ev c + 1) 24 8 rfl rfl _ _ _ _ rfl rfl _ _ _ _) $$ [HS HR3]
  · isplitl [HS] <;> iassumption
  iintro ⟨HS, HR3⟩
  rw [wp_ret]; imodintro; iapply Hk
  isplitl [HS]; · iexact HS
  isplitl [HL3]; · iexact HL3
  isplitl [HR3]; · iexact HR3
  iexact HkR3

end Cert.RingProof
-- ==== Proof.Compute.lean ====
/-
# The body: the rows of the result

Each block that has arrived is multiplied by the device's columns, and what arrived from two steps away is passed on by halves.
-/
module

public import proofs.«01_k».proof.Proof.Relay

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3) (K : Dev nD × Fin 53 → ℕ)

theorem tgt_24 (c : Dev nD) : tgt c 24 = partner c := by revert c; decide +kernel
theorem tgt_25_even (c : Dev nD) : even c = true → tgt c 25 = left c := by revert c; decide +kernel
theorem tgt_25_odd (c : Dev nD) : even c = false → tgt c 25 = right c := by revert c; decide +kernel
theorem src_24_odd (c : Dev nD) (h : (!even c) = true) : srcM c 24 = r2M :=
  (show srcM c 24 = (if even c = true then l2M else r2M) from rfl).trans (if_neg (by simpa using h))
theorem src_25_odd (c : Dev nD) (h : (!even c) = true) : srcM c 25 = l2M :=
  (show srcM c 25 = (if even c = true then r2M else l2M) from rfl).trans (if_neg (by simpa using h))
theorem ord_24_odd (c : Dev nD) : (!even c) = true → ord c 24 = 24 + ev c := by revert c; decide +kernel
theorem ord_25_even (c : Dev nD) : even c = true → ord c 25 = 26 - ev c := by revert c; decide +kernel

/-- The left neighbour's rows of the result. -/
theorem part14_wp {α : Type} {Q : α → sProp 𝕄} {kk : _ → Prog (TpuEff nD τ sig (Elt F) Λ₀ .tc) α} (c : Dev nD) (v23 v373 v v374 v379 v381 v383 : BitVec 32) (W : S4096x1024.Idx → Elt F .fp8e4m3) (s : F .f32) :
    iprop(hold c l1M Finset.univ fullShare.right (X (left c)) ∗ hold c w8M Finset.univ fullShare W ∗ room c outM (oR (left c)).set)
      ⊢ iprop((∀ w1 w2 w3 w4, (hold c l1M Finset.univ fullShare.right (X (left c)) ∗ hold c w8M Finset.univ fullShare W ∗ hold c outM (oR (left c)).set fullShare (OUT X c s W)) -∗ wp frame (wpE (defs₀ (F := F)) 𝒱₀ (c : Thread nD τ) none) Set.univ (kk ⟨w1, w2, w3, w4⟩) Q)
        -∗ wp frame (wpE (defs₀ (F := F)) 𝒱₀ (c : Thread nD τ) none) Set.univ (k0_part14 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v23 s v373 v v374 v379 v381 v383 >>= kk) Q) := by
  rw [wp_bind, k0_part14_eq_skeleton]; unfold k0_part14_skel
  simp only [Prog.lift, Prog.bind_op, Prog.bind_ret, Prog.pure_eq_ret]
  iintro ⟨Hb, H8, Ho⟩ Hk
  iapply (whole_load l1M (by decide)) $$ Hb
  iintro Hb
  iapply (whole_load w8M (by decide)) $$ H8
  iintro H8
  iapply (out_put (left c) (off2_left c) (OUT X c s W) (OUT_block X c s W _ (ne_last c).2.1)) $$ Ho
  iintro Ho
  rw [wp_ret]; imodintro; iapply Hk
  isplitl [Hb]; · iexact Hb
  isplitl [H8]; · iexact H8
  iexact Ho

/-- The right neighbour's rows of the result. -/
theorem part15_wp {α : Type} {Q : α → sProp 𝕄} {kk : _ → Prog (TpuEff nD τ sig (Elt F) Λ₀ .tc) α} (c : Dev nD) (v98 v407 v408 : BitVec 32) (v419 v421 : BitVec 1) (W : S4096x1024.Idx → Elt F .fp8e4m3) (s : F .f32) :
    iprop(St X K c 24 8 0 ∗ hold c r1M Finset.univ fullShare.right (X (right c)) ∗ hold c w8M Finset.univ fullShare W ∗ room c outM (oR (right c)).set)
      ⊢ iprop(((St X K c 24 9 0 ∗ recvPay X c 8 ∗ hold c r1M Finset.univ fullShare.right (X (right c)) ∗ hold c w8M Finset.univ fullShare W ∗ hold c outM (oR (right c)).set fullShare (OUT X c s W)) -∗ wp frame (wpE (defs₀ (F := F)) 𝒱₀ (c : Thread nD τ) none) Set.univ (kk ⟨⟩) Q)
        -∗ wp frame (wpE (defs₀ (F := F)) 𝒱₀ (c : Thread nD τ) none) Set.univ (k0_part15 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v98 s v407 v408 v419 v421 >>= kk) Q) := by
  rw [wp_bind, k0_part15_eq_skeleton]; unfold k0_part15_skel
  simp only [Prog.lift, Prog.bind_op, Prog.bind_ret, Prog.pure_eq_ret]
  iintro ⟨HS, Hb, H8, Ho⟩ Hk
  iapply (whole_load r1M (by decide)) $$ Hb
  iintro Hb
  iapply (whole_load w8M (by decide)) $$ H8
  iintro H8
  iapply (out_put (right c) (off3_right c) (OUT X c s W) (OUT_block X c s W _ (ne_last c).2.2.1)) $$ Ho
  iintro Ho
  iapply (recv_rows X K 8 24 8 (s := 0) rfl (wait_ok c 8) c1M (qR 0) rfl rfl) $$ HS
  iintro ⟨HS, Hp8⟩
  rw [wp_ret]; imodintro; iapply Hk
  isplitl [HS]; · iexact HS
  isplitl [Hp8]; · iexact Hp8
  isplitl [Hb]; · iexact Hb
  isplitl [H8]; · iexact H8
  iexact Ho

/-- The rows of the device across. -/
theorem part16_wp {α : Type} {Q : α → sProp 𝕄} {kk : _ → Prog (TpuEff nD τ sig (Elt F) Λ₀ .tc) α} (c : Dev nD) (v46 v98 : BitVec 32) (W : S4096x1024.Idx → Elt F .fp8e4m3) (s : F .f32) :
    iprop(St X K c 24 9 0 ∗ recvPay X c 8 ∗ hold c w8M Finset.univ fullShare W ∗ room c outM (oR (partner c)).set)
      ⊢ iprop(((St X K c 24 12 0 ∗ hold c c1M Finset.univ fullShare (X (partner c)) ∗ hold c w8M Finset.univ fullShare W ∗ hold c outM (oR (partner c)).set fullShare (OUT X c s W)) -∗ wp frame (wpE (defs₀ (F := F)) 𝒱₀ (c : Thread nD τ) none) Set.univ (kk ⟨⟩) Q)
        -∗ wp frame (wpE (defs₀ (F := F)) 𝒱₀ (c : Thread nD τ) none) Set.univ (k0_part16 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v98 s >>= kk) Q) := by
  rw [wp_bind, k0_part16_eq_skeleton]; unfold k0_part16_skel
  simp only [Prog.lift, Prog.bind_op, Prog.bind_ret, Prog.pure_eq_ret]
  iintro ⟨HS, Hp8, H8, Ho⟩ Hk
  iapply (recv_rows X K 9 24 9 (s := 0) rfl (wait_ok c 9) c1M (qR 1) rfl rfl) $$ HS
  iintro ⟨HS, Hp9⟩
  iapply (recv_rows X K 10 24 10 (s := 0) rfl (wait_ok c 10) c1M (qR 2) rfl rfl) $$ HS
  iintro ⟨HS, Hp10⟩
  iapply (recv_rows X K 11 24 11 (s := 0) rfl (wait_ok c 11) c1M (qR 3) rfl rfl) $$ HS
  iintro ⟨HS, Hp11⟩
  ihave Hb := (show iprop(recvPay X c (kC 0) ∗ recvPay X c (kC 1) ∗ recvPay X c (kC 2) ∗ recvPay X c (kC 3)) ⊢ (hold c c1M Finset.univ fullShare (X (partner c)) : sProp 𝕄) from by
      rw [across_recv, across_recv, across_recv, across_recv, ← hold_quarters]) $$ [Hp8 Hp9 Hp10 Hp11]
  · isplitl [Hp8]; · iexact Hp8
    isplitl [Hp9]; · iexact Hp9
    isplitl [Hp10]; · iexact Hp10
    iexact Hp11
  iapply (whole_load c1M (by decide)) $$ Hb
  iintro Hb
  iapply (whole_load w8M (by decide)) $$ H8
  iintro H8
  iapply (out_put (partner c) (off4_partner c) (OUT X c s W) (OUT_block X c s W _ (ne_last c).2.2.2.1)) $$ Ho
  iintro Ho
  rw [wp_ret]; imodintro; iapply Hk
  isplitl [HS]; · iexact HS
  isplitl [Hb]; · iexact Hb
  isplitl [H8]; · iexact H8
  iexact Ho

/-- The first halves of the blocks two steps away; an even device passes the left one across. -/
theorem part17_wp {α : Type} {Q : α → sProp 𝕄} {kk : _ → Prog (TpuEff nD τ sig (Elt F) Λ₀ .tc) α} (c : Dev nD) (v46 v70 v98 : BitVec 32) (v99 v100 : BitVec 1) :
    iprop(St X K c 24 12 0)
      ⊢ iprop((∀ w, (St X K c (24 + ev c) 16 0 ∗ spare (even c) (spLL X c 0) ∗ keepLL X c (hR 0).set ∗ spRR X c 0 ∗ keepRR X c (hR 0).set) -∗ wp frame (wpE (defs₀ (F := F)) 𝒱₀ (c : Thread nD τ) none) Set.univ (kk w) Q)
        -∗ wp frame (wpE (defs₀ (F := F)) 𝒱₀ (c : Thread nD τ) none) Set.univ (k0_part17 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 v99 v100 >>= kk) Q) := by
  rw [wp_bind, k0_part17_eq_skeleton]; unfold k0_part17_skel
  simp only [Prog.lift, Prog.bind_op, Prog.bind_ret, Prog.pure_eq_ret]
  iintro HS Hk
  iapply (recv_rows X K 12 24 12 (s := 0) rfl (wait_ok c 12) l2M (qR 0) rfl rfl) $$ HS
  iintro ⟨HS, Hp12⟩
  iapply (recv_rows X K 13 24 13 (s := 0) rfl (wait_ok c 13) l2M (qR 1) rfl rfl) $$ HS
  iintro ⟨HS, Hp13⟩
  ihave Hc := (show iprop(recvPay X c 12 ∗ recvPay X c 13) ⊢ _ from Entails.of_eq (left2_top X c)) $$ [Hp12 Hp13]
  · isplitl [Hp12]; · iexact Hp12
    iexact Hp13
  icases Hc with ⟨Ht, HkL⟩
  iapply (@cond_half F _ X K _ _ _ c _ _ _ 24 (even c) (cond9_iff c) (fun h => (dev32_eq c h).trans (tgt_24 c).symm) 24 (24 + ev c) 14 (fun _ => rfl) (by unfold ev; cases even c <;> rfl) l2M c3M 0 (fun h => if_pos h) rfl (fun _ => rfl) (fun _ => rfl) (spLL X c 0) (send24_even X c) _ rfl _ _ rfl rfl _ _ _ _) $$ [HS Ht]
  · isplitl [HS] <;> iassumption
  iintro ⟨HS, Ht⟩
  iapply (recv_rows X K 16 (24 + ev c) 14 (s := 0) rfl (wait_ok c 16) r2M (qR 0) rfl rfl) $$ HS
  iintro ⟨HS, Hp16⟩
  iapply (recv_rows X K 17 (24 + ev c) 15 (s := 0) rfl (wait_ok c 17) r2M (qR 1) rfl rfl) $$ HS
  iintro ⟨HS, Hp17⟩
  ihave Hc := (show iprop(recvPay X c 16 ∗ recvPay X c 17) ⊢ _ from Entails.of_eq (right2_top X c)) $$ [Hp16 Hp17]
  · isplitl [Hp16]; · iexact Hp16
    iexact Hp17
  icases Hc with ⟨Hu, HkR⟩
  rw [wp_ret]; imodintro; iapply Hk
  isplitl [HS]; · iexact HS
  isplitl [Ht]; · iexact Ht
  isplitl [HkL]; · iexact HkL
  isplitl [Hu]; · iexact Hu
  iexact HkR

/-- An odd device passes the first half from the right across, and the second half from the left on to its right. -/
theorem part18_wp {α : Type} {Q : α → sProp 𝕄} {kk : _ → Prog (TpuEff nD τ sig (Elt F) Λ₀ .tc) α} (c : Dev nD) (v46 v70 v98 : BitVec 32) (v100 : BitVec 1) (v501 : BitVec 32) :
    iprop(St X K c (24 + ev c) 16 0 ∗ spRR X c 0)
      ⊢ iprop((∀ w1 w2, (St X K c (26 - ev c) 19 0 ∗ spare (!even c) (spRR X c 0) ∗ spare (!even c) (spLL X c 1) ∗ keepLL X c (hR 1).set ∗ recvPay X c 18) -∗ wp frame (wpE (defs₀ (F := F)) 𝒱₀ (c : Thread nD τ) none) Set.univ (kk ⟨w1, w2⟩) Q)
        -∗ wp frame (wpE (defs₀ (F := F)) 𝒱₀ (c : Thread nD τ) none) Set.univ (k0_part18 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v46 v70 v98 v100 v501 >>= kk) Q) := by
  rw [wp_bind, k0_part18_eq_skeleton]; unfold k0_part18_skel
  simp only [Prog.lift, Prog.bind_op, Prog.bind_ret, Prog.pure_eq_ret]
  iintro ⟨HS, Hu⟩ Hk
  iapply (@cond_half F _ X K _ _ _ c _ _ _ 24 (!even c) (odd_iff (cond10_iff c)) (fun h => (dev33_eq c h).trans (tgt_24 c).symm) (24 + ev c) (25) 16 (ord_24_odd c) (by unfold ev; cases even c <;> rfl) r2M c3M 0 (src_24_odd c) rfl (fun _ => rfl) (fun _ => rfl) (spRR X c 0) (send24_odd X c) _ rfl _ _ rfl rfl _ _ _ _) $$ [HS Hu]
  · isplitl [HS] <;> iassumption
  iintro ⟨HS, Hu⟩
  iapply (recv_rows X K 14 25 16 (s := 0) rfl (wait_ok c 14) l2M (qR 2) rfl rfl) $$ HS
  iintro ⟨HS, Hp14⟩
  iapply (recv_rows X K 15 25 17 (s := 0) rfl (wait_ok c 15) l2M (qR 3) rfl rfl) $$ HS
  iintro ⟨HS, Hp15⟩
  ihave Hc := (show iprop(recvPay X c 14 ∗ recvPay X c 15) ⊢ _ from Entails.of_eq (left2_bot X c)) $$ [Hp14 Hp15]
  · isplitl [Hp14]; · iexact Hp14
    iexact Hp15
  icases Hc with ⟨Ht, HkL⟩
  iapply (@cond_half F _ X K _ _ _ c _ _ _ 25 (!even c) (odd_iff (cond11_iff c)) (fun h => (dev34_eq c h).trans (tgt_25_odd c ((cond11_iff c).mp h)).symm) 25 (26 - ev c) 18 (fun _ => rfl) (by unfold ev; cases even c <;> rfl) l2M r3M 1 (src_25_odd c) rfl (fun _ => rfl) (fun _ => rfl) (spLL X c 1) (send25_odd X c) _ rfl _ _ rfl rfl _ _ _ _) $$ [HS Ht]
  · isplitl [HS] <;> iassumption
  iintro ⟨HS, Ht⟩
  iapply (recv_rows X K 18 (26 - ev c) 18 (s := 0) rfl (wait_ok c 18) r2M (qR 2) rfl rfl) $$ HS
  iintro ⟨HS, Hp18⟩
  rw [wp_ret]; imodintro; iapply Hk
  isplitl [HS]; · iexact HS
  isplitl [Hu]; · iexact Hu
  isplitl [Ht]; · iexact Ht
  isplitl [HkL]; · iexact HkL
  iexact Hp18

/-- An even device passes the second half from the right on to its left; the product of the block two steps to the left. -/
theorem part19_wp {α : Type} {Q : α → sProp 𝕄} {kk : _ → Prog (TpuEff nD τ sig (Elt F) Λ₀ .tc) α} (c : Dev nD) (v23 v70 : BitVec 32) (v99 : BitVec 1) (v523 v : BitVec 32) (W : S4096x1024.Idx → Elt F .fp8e4m3) :
    iprop(St X K c (26 - ev c) 19 0 ∗ recvPay X c 18 ∗ hold c l2M Finset.univ fullShare.right (X (left (left c))) ∗ hold c w8M Finset.univ fullShare W)
      ⊢ iprop((∀ w, (St X K c 26 20 0 ∗ spare (even c) (spRR X c 1) ∗ keepRR X c (hR 1).set ∗ hold c l2M Finset.univ fullShare.right (X (left (left c))) ∗ hold c w8M Finset.univ fullShare W) -∗ wp frame (wpE (defs₀ (F := F)) 𝒱₀ (c : Thread nD τ) none) Set.univ (kk ⟨w, k0_pay13 (X (left (left c))) W⟩) Q)
        -∗ wp frame (wpE (defs₀ (F := F)) 𝒱₀ (c : Thread nD τ) none) Set.univ (k0_part19 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v23 v70 v99 v523 v >>= kk) Q) := by
  rw [wp_bind, k0_part19_eq_skeleton]; unfold k0_part19_skel
  simp only [Prog.lift, Prog.bind_op, Prog.bind_ret, Prog.pure_eq_ret]
  iintro ⟨HS, Hp18, Hb, H8⟩ Hk
  iapply (recv_rows X K 19 (26 - ev c) 19 (s := 0) rfl (wait_ok c 19) r2M (qR 3) rfl rfl) $$ HS
  iintro ⟨HS, Hp19⟩
  ihave Hc := (show iprop(recvPay X c 18 ∗ recvPay X c 19) ⊢ _ from Entails.of_eq (right2_bot X c)) $$ [Hp18 Hp19]
  · isplitl [Hp18]; · iexact Hp18
    iexact Hp19
  icases Hc with ⟨Hu, HkR⟩
  iapply (@cond_half F _ X K _ _ _ c _ _ _ 25 (even c) (cond12_iff c) (fun h => (dev35_eq c h).trans (tgt_25_even c ((cond12_iff c).mp h)).symm) (26 - ev c) (26) 20 (ord_25_even c) (by unfold ev; cases even c <;> rfl) r2M r3M 1 (fun h => if_pos h) rfl (fun _ => rfl) (fun _ => rfl) (spRR X c 1) (send25_even X c) _ rfl _ _ rfl rfl _ _ _ _) $$ [HS Hu]
  · isplitl [HS] <;> iassumption
  iintro ⟨HS, Hu⟩
  iapply (whole_load l2M (by decide)) $$ Hb
  iintro Hb
  iapply (whole_load w8M (by decide)) $$ H8
  iintro H8
  rw [wp_ret]; imodintro; iapply Hk
  isplitl [HS]; · iexact HS
  isplitl [Hu]; · iexact Hu
  isplitl [HkR]; · iexact HkR
  isplitl [Hb]; · iexact Hb
  iexact H8

/-- The rows of the block two steps to the left. -/
theorem part20_wp {α : Type} {Q : α → sProp 𝕄} {kk : _ → Prog (TpuEff nD τ sig (Elt F) Λ₀ .tc) α} (c : Dev nD) (v23 v554 : BitVec 32) (W : S4096x1024.Idx → Elt F .fp8e4m3) (s : F .f32) :
    iprop(hold c r2M Finset.univ fullShare.right (X (right (right c))) ∗ hold c w8M Finset.univ fullShare W ∗ room c outM (oR (left (left c))).set)
      ⊢ iprop((∀ w, (hold c r2M Finset.univ fullShare.right (X (right (right c))) ∗ hold c w8M Finset.univ fullShare W ∗ hold c outM (oR (left (left c))).set fullShare (OUT X c s W)) -∗ wp frame (wpE (defs₀ (F := F)) 𝒱₀ (c : Thread nD τ) none) Set.univ (kk ⟨w, k0_pay15 s (X (right (right c))) W⟩) Q)
        -∗ wp frame (wpE (defs₀ (F := F)) 𝒱₀ (c : Thread nD τ) none) Set.univ (k0_part20 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v23 s v554 (k0_pay13 (X (left (left c))) W) >>= kk) Q) := by
  rw [wp_bind, k0_part20_eq_skeleton]; unfold k0_part20_skel
  simp only [Prog.lift, Prog.bind_op, Prog.bind_ret, Prog.pure_eq_ret]
  iintro ⟨Hb, H8, Ho⟩ Hk
  iapply (out_put (left (left c)) (off2_left2 c) (OUT X c s W) (OUT_block X c s W _ (ne_last c).2.2.2.2.1)) $$ Ho
  iintro Ho
  iapply (whole_load r2M (by decide)) $$ Hb
  iintro Hb
  iapply (whole_load w8M (by decide)) $$ H8
  iintro H8
  rw [wp_ret]; imodintro; iapply Hk
  isplitl [Hb]; · iexact Hb
  isplitl [H8]; · iexact H8
  iexact Ho

/-- The rows of the block two steps to the right. -/
theorem part21_wp {α : Type} {Q : α → sProp 𝕄} {kk : _ → Prog (TpuEff nD τ sig (Elt F) Λ₀ .tc) α} (c : Dev nD) (v98 v588 : BitVec 32) (W : S4096x1024.Idx → Elt F .fp8e4m3) (s : F .f32) :
    iprop(St X K c 26 20 0 ∗ room c outM (oR (right (right c))).set)
      ⊢ iprop(((St X K c 26 23 0 ∗ recvPay X c 20 ∗ recvPay X c 21 ∗ recvPay X c 22 ∗ hold c outM (oR (right (right c))).set fullShare (OUT X c s W)) -∗ wp frame (wpE (defs₀ (F := F)) 𝒱₀ (c : Thread nD τ) none) Set.univ (kk ⟨⟩) Q)
        -∗ wp frame (wpE (defs₀ (F := F)) 𝒱₀ (c : Thread nD τ) none) Set.univ (k0_part21 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v98 v588 (k0_pay15 s (X (right (right c))) W) >>= kk) Q) := by
  rw [wp_bind, k0_part21_eq_skeleton]; unfold k0_part21_skel
  simp only [Prog.lift, Prog.bind_op, Prog.bind_ret, Prog.pure_eq_ret]
  iintro ⟨HS, Ho⟩ Hk
  iapply (out_put (right (right c)) (off3_right2 c) (OUT X c s W) (OUT_block X c s W _ (ne_last c).2.2.2.2.2.1)) $$ Ho
  iintro Ho
  iapply (recv_rows X K 20 26 20 (s := 0) rfl (wait_ok c 20) c2M (qR 0) rfl rfl) $$ HS
  iintro ⟨HS, Hp20⟩
  iapply (recv_rows X K 21 26 21 (s := 0) rfl (wait_ok c 21) c2M (qR 1) rfl rfl) $$ HS
  iintro ⟨HS, Hp21⟩
  iapply (recv_rows X K 22 26 22 (s := 0) rfl (wait_ok c 22) c2M (qR 2) rfl rfl) $$ HS
  iintro ⟨HS, Hp22⟩
  rw [wp_ret]; imodintro; iapply Hk
  isplitl [HS]; · iexact HS
  isplitl [Hp20]; · iexact Hp20
  isplitl [Hp21]; · iexact Hp21
  isplitl [Hp22]; · iexact Hp22
  iexact Ho

/-- The product of the block that came across from a neighbour's partner. -/
theorem part22_wp {α : Type} {Q : α → sProp 𝕄} {kk : _ → Prog (TpuEff nD τ sig (Elt F) Λ₀ .tc) α} (c : Dev nD) (v23 : BitVec 32) (W : S4096x1024.Idx → Elt F .fp8e4m3) (s : F .f32) :
    iprop(St X K c 26 23 0 ∗ recvPay X c 20 ∗ recvPay X c 21 ∗ recvPay X c 22 ∗ hold c w8M Finset.univ fullShare W)
      ⊢ iprop(((St X K c 26 24 0 ∗ hold c c2M Finset.univ fullShare (X (opposite c)) ∗ hold c w8M Finset.univ fullShare W) -∗ wp frame (wpE (defs₀ (F := F)) 𝒱₀ (c : Thread nD τ) none) Set.univ (kk (k0_pay16 s (X (opposite c)) W)) Q)
        -∗ wp frame (wpE (defs₀ (F := F)) 𝒱₀ (c : Thread nD τ) none) Set.univ (k0_part22 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 v23 s >>= kk) Q) := by
  rw [wp_bind, k0_part22_eq_skeleton]; unfold k0_part22_skel
  simp only [Prog.lift, Prog.bind_op, Prog.bind_ret, Prog.pure_eq_ret]
  iintro ⟨HS, Hp20, Hp21, Hp22, H8⟩ Hk
  iapply (recv_rows X K 23 26 23 (s := 0) rfl (wait_ok c 23) c2M (qR 3) rfl rfl) $$ HS
  iintro ⟨HS, Hp23⟩
  ihave Hb := (show iprop(recvPay X c (kC2 0) ∗ recvPay X c (kC2 1) ∗ recvPay X c (kC2 2) ∗ recvPay X c (kC2 3)) ⊢ (hold c c2M Finset.univ fullShare (X (opposite c)) : sProp 𝕄) from by
      rw [across2_recv, across2_recv, across2_recv, across2_recv, ← hold_quarters]) $$ [Hp20 Hp21 Hp22 Hp23]
  · isplitl [Hp20]; · iexact Hp20
    isplitl [Hp21]; · iexact Hp21
    isplitl [Hp22]; · iexact Hp22
    iexact Hp23
  iapply (whole_load c2M (by decide)) $$ Hb
  iintro Hb
  iapply (whole_load w8M (by decide)) $$ H8
  iintro H8
  rw [wp_ret]; imodintro; iapply Hk
  isplitl [HS]; · iexact HS
  isplitl [Hb]; · iexact Hb
  iexact H8

/-- That block's rows, and the first half of the last block. -/
theorem part23_wp {α : Type} {Q : α → sProp 𝕄} {kk : _ → Prog (TpuEff nD τ sig (Elt F) Λ₀ .tc) α} (c : Dev nD) (v23 v73 v98 : BitVec 32) (W : S4096x1024.Idx → Elt F .fp8e4m3) (s : F .f32) :
    iprop(St X K c 26 24 0 ∗ hold c w8M Finset.univ fullShare W ∗ room c outM (oR (opposite c)).set)
      ⊢ iprop((∀ w, (St X K c 26 25 0 ∗ hold c c3M Finset.univ fullShare (halfOf 0 (X (last c))) ∗ hold c w8M Finset.univ fullShare W ∗ hold c outM (oR (opposite c)).set fullShare (OUT X c s W)) -∗ wp frame (wpE (defs₀ (F := F)) 𝒱₀ (c : Thread nD τ) none) Set.univ (kk ⟨w, k0_pay17 (halfOf 0 (X (last c))) W⟩) Q)
        -∗ wp frame (wpE (defs₀ (F := F)) 𝒱₀ (c : Thread nD τ) none) Set.univ (k0_part23 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v23 v73 v98 (k0_pay16 s (X (opposite c)) W) >>= kk) Q) := by
  rw [wp_bind, k0_part23_eq_skeleton]; unfold k0_part23_skel
  simp only [Prog.lift, Prog.bind_op, Prog.bind_ret, Prog.pure_eq_ret]
  iintro ⟨HS, H8, Ho⟩ Hk
  iapply (out_put (opposite c) (off3_opposite c) (OUT X c s W) (OUT_block X c s W _ (ne_last c).2.2.2.2.2.2)) $$ Ho
  iintro Ho
  iapply (recv_all X K 24 26 24 (s := 0) rfl (wait_ok c 24) c3M rfl rfl) $$ HS
  iintro ⟨HS, Hp⟩
  ihave Hb := (Entails.of_eq (last_top X c)) $$ Hp
  iapply (whole_load c3M (by decide)) $$ Hb
  iintro Hb
  iapply (whole_load w8M (by decide)) $$ H8
  iintro H8
  rw [wp_ret]; imodintro; iapply Hk
  isplitl [HS]; · iexact HS
  isplitl [Hb]; · iexact Hb
  isplitl [H8]; · iexact H8
  iexact Ho

/-- The last block's rows by halves, and the first wait for a transfer of the device's own. -/
theorem part24_wp {α : Type} {Q : α → sProp 𝕄} {kk : _ → Prog (TpuEff nD τ sig (Elt F) Λ₀ .tc) α} (c : Dev nD) (v70 v682 : BitVec 32) (W : S4096x1024.Idx → Elt F .fp8e4m3) (s : F .f32) :
    iprop(St X K c 26 25 0 ∗ hold c w8M Finset.univ fullShare W ∗ room c outM (ohR (last c) 0).set ∗ room c outM (ohR (last c) 1).set)
      ⊢ iprop(((St X K c 26 26 1 ∗ hold c r3M Finset.univ fullShare (halfOf 1 (X (last c))) ∗ hold c w8M Finset.univ fullShare W ∗ hold c outM (ohR (last c) 0).set fullShare (OUT X c s W) ∗ hold c outM (ohR (last c) 1).set fullShare (OUT X c s W)) -∗ wp frame (wpE (defs₀ (F := F)) 𝒱₀ (c : Thread nD τ) none) Set.univ (kk ⟨⟩) Q)
        -∗ wp frame (wpE (defs₀ (F := F)) 𝒱₀ (c : Thread nD τ) none) Set.univ (k0_part24 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 c v70 s v682 (k0_pay17 (halfOf 0 (X (last c))) W) >>= kk) Q) := by
  rw [wp_bind, k0_part24_eq_skeleton]; unfold k0_part24_skel
  simp only [Prog.lift, Prog.bind_op, Prog.bind_ret, Prog.pure_eq_ret]
  iintro ⟨HS, H8, Ho, Ho'⟩ Hk
  iapply (out_put_half (last c) 0 (off5_top c) (OUT X c s W) (OUT_half X c s W 0)) $$ Ho
  iintro Ho
  iapply (recv_all X K 25 26 25 (s := 0) rfl (wait_ok c 25) r3M rfl rfl) $$ HS
  iintro ⟨HS, Hp⟩
  ihave Hb := (Entails.of_eq (last_bot X c)) $$ Hp
  iapply (whole_load r3M (by decide)) $$ Hb
  iintro Hb
  iapply (whole_load w8M (by decide)) $$ H8
  iintro H8
  iapply (out_put_half (last c) 1 (off5_bot c) (OUT X c s W) (OUT_half X c s W 1)) $$ Ho'
  iintro Ho'
  iapply (drain_rows X K 0 26 0 rfl own8M (qR 0) rfl rfl) $$ HS
  iintro HS
  rw [wp_ret]; imodintro; iapply Hk
  isplitl [HS]; · iexact HS
  isplitl [Hb]; · iexact Hb
  isplitl [H8]; · iexact H8
  isplitl [Ho]; · iexact Ho
  iexact Ho'

end Cert.RingProof
-- ==== Proof.Drain.lean ====
/-
# The body: the last waits, and the whole

The device waits until each of its own transfers has left, and the parts are joined into the body.
-/
module

public import proofs.«01_k».proof.Proof.Compute

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3) (K : Dev nD × Fin 53 → ℕ)

/-! ## Waiting for the device's own transfers -/

/-- Transfers 1 to 5 have left. -/
theorem part25_wp {α : Type} {Q : α → sProp 𝕄} {kk : _ → Prog (TpuEff nD τ sig (Elt F) Λ₀ .tc) α} (c : Dev nD) :
    St X K c 26 26 1
      ⊢ iprop((St X K c 26 26 6 -∗ wp frame (wpE (defs₀ (F := F)) 𝒱₀ (c : Thread nD τ) none) Set.univ (kk ⟨⟩) Q)
        -∗ wp frame (wpE (defs₀ (F := F)) 𝒱₀ (c : Thread nD τ) none) Set.univ (k0_part25 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 >>= kk) Q) := by
  rw [wp_bind]
  rw [k0_part25_eq_skeleton]; unfold k0_part25_skel
  simp only [Prog.lift, Prog.bind_op, Prog.bind_ret, Prog.pure_eq_ret]
  iintro HS Hk
  iapply (drain_rows X K 1 26 1 rfl own8M (qR 1) rfl rfl) $$ HS
  iintro HS
  iapply (drain_rows X K 2 26 2 rfl own8M (qR 2) rfl rfl) $$ HS
  iintro HS
  iapply (drain_rows X K 3 26 3 rfl own8M (qR 3) rfl rfl) $$ HS
  iintro HS
  iapply (drain_rows X K 4 26 4 rfl own8M (qR 0) rfl rfl) $$ HS
  iintro HS
  iapply (drain_rows X K 5 26 5 rfl own8M (qR 1) rfl rfl) $$ HS
  iintro HS
  rw [wp_ret]; imodintro; iapply Hk
  iexact HS

/-- Transfers 6 to 10 have left. -/
theorem part26_wp {α : Type} {Q : α → sProp 𝕄} {kk : _ → Prog (TpuEff nD τ sig (Elt F) Λ₀ .tc) α} (c : Dev nD) :
    St X K c 26 26 6
      ⊢ iprop((St X K c 26 26 11 -∗ wp frame (wpE (defs₀ (F := F)) 𝒱₀ (c : Thread nD τ) none) Set.univ (kk ⟨⟩) Q)
        -∗ wp frame (wpE (defs₀ (F := F)) 𝒱₀ (c : Thread nD τ) none) Set.univ (k0_part26 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 >>= kk) Q) := by
  rw [wp_bind]
  rw [k0_part26_eq_skeleton]; unfold k0_part26_skel
  simp only [Prog.lift, Prog.bind_op, Prog.bind_ret, Prog.pure_eq_ret]
  iintro HS Hk
  iapply (drain_rows X K 6 26 6 rfl own8M (qR 2) rfl rfl) $$ HS
  iintro HS
  iapply (drain_rows X K 7 26 7 rfl own8M (qR 3) rfl rfl) $$ HS
  iintro HS
  iapply (drain_rows X K 8 26 8 rfl own8M (qR 0) rfl rfl) $$ HS
  iintro HS
  iapply (drain_rows X K 9 26 9 rfl own8M (qR 1) rfl rfl) $$ HS
  iintro HS
  iapply (drain_rows X K 10 26 10 rfl own8M (qR 2) rfl rfl) $$ HS
  iintro HS
  rw [wp_ret]; imodintro; iapply Hk
  iexact HS

/-- Transfers 11 to 15 have left. -/
theorem part27_wp {α : Type} {Q : α → sProp 𝕄} {kk : _ → Prog (TpuEff nD τ sig (Elt F) Λ₀ .tc) α} (c : Dev nD) :
    St X K c 26 26 11
      ⊢ iprop((St X K c 26 26 16 -∗ wp frame (wpE (defs₀ (F := F)) 𝒱₀ (c : Thread nD τ) none) Set.univ (kk ⟨⟩) Q)
        -∗ wp frame (wpE (defs₀ (F := F)) 𝒱₀ (c : Thread nD τ) none) Set.univ (k0_part27 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 >>= kk) Q) := by
  rw [wp_bind]
  rw [k0_part27_eq_skeleton]; unfold k0_part27_skel
  simp only [Prog.lift, Prog.bind_op, Prog.bind_ret, Prog.pure_eq_ret]
  iintro HS Hk
  iapply (drain_rows X K 11 26 11 rfl own8M (qR 3) rfl rfl) $$ HS
  iintro HS
  iapply (drain_rows X K 12 26 12 rfl l1M (qR 0) rfl rfl) $$ HS
  iintro HS
  iapply (drain_rows X K 13 26 13 rfl l1M (qR 1) rfl rfl) $$ HS
  iintro HS
  iapply (drain_rows X K 14 26 14 rfl l1M (qR 2) rfl rfl) $$ HS
  iintro HS
  iapply (drain_rows X K 15 26 15 rfl l1M (qR 3) rfl rfl) $$ HS
  iintro HS
  rw [wp_ret]; imodintro; iapply Hk
  iexact HS

/-- Transfers 16 to 20 have left. -/
theorem part28_wp {α : Type} {Q : α → sProp 𝕄} {kk : _ → Prog (TpuEff nD τ sig (Elt F) Λ₀ .tc) α} (c : Dev nD) :
    St X K c 26 26 16
      ⊢ iprop((St X K c 26 26 21 -∗ wp frame (wpE (defs₀ (F := F)) 𝒱₀ (c : Thread nD τ) none) Set.univ (kk ⟨⟩) Q)
        -∗ wp frame (wpE (defs₀ (F := F)) 𝒱₀ (c : Thread nD τ) none) Set.univ (k0_part28 xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 >>= kk) Q) := by
  rw [wp_bind]
  rw [k0_part28_eq_skeleton]; unfold k0_part28_skel
  simp only [Prog.lift, Prog.bind_op, Prog.bind_ret, Prog.pure_eq_ret]
  iintro HS Hk
  iapply (drain_rows X K 16 26 16 rfl r1M (qR 0) rfl rfl) $$ HS
  iintro HS
  iapply (drain_rows X K 17 26 17 rfl r1M (qR 1) rfl rfl) $$ HS
  iintro HS
  iapply (drain_rows X K 18 26 18 rfl r1M (qR 2) rfl rfl) $$ HS
  iintro HS
  iapply (drain_rows X K 19 26 19 rfl r1M (qR 3) rfl rfl) $$ HS
  iintro HS
  iapply (drain_rows X K 20 26 20 rfl l1M (qR 0) rfl rfl) $$ HS
  iintro HS
  rw [wp_ret]; imodintro; iapply Hk
  iexact HS

/-! ## The result in its blocks -/

theorem bigSep_origins (c : Dev nD) (Φ : Dev nD → sProp 𝕄) :
    bigSep Finset.univ Φ = iprop(Φ c ∗ Φ (left c) ∗ Φ (right c) ∗ Φ (partner c) ∗ Φ (left (left c)) ∗ Φ (right (right c)) ∗ Φ (opposite c) ∗ Φ (last c)) :=
  bigSep_univ_eq_bigSepL _ (origins_univ c) (origins_nodup c) Φ

/-- The result's buffer cut into the rows of each device's block, the last block into its halves. -/
theorem out_rooms (c : Dev nD) :
    (room c outM Finset.univ : sProp 𝕄)
      ⊢ iprop(room (F := F) c outM (oR c).set ∗ room (F := F) c outM (oR (left c)).set ∗ room (F := F) c outM (oR (right c)).set ∗ room (F := F) c outM (oR (partner c)).set
        ∗ room (F := F) c outM (oR (left (left c))).set ∗ room (F := F) c outM (oR (right (right c))).set ∗ room (F := F) c outM (oR (opposite c)).set
        ∗ room (F := F) c outM (ohR (last c) 0).set ∗ room (F := F) c outM (ohR (last c) 1).set) := by
  refine (room_blocks (F := F) c outM (fun o => (oR o).set) blocks_disjoint blocks_union).trans ?_
  rw [bigSep_origins c]
  iintro ⟨H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  ihave H8 := (show (room (F := F) c outM (oR (last c)).set : sProp 𝕄) ⊢ room (F := F) c outM ((ohR (last c) 0).set ∪ (ohR (last c) 1).set) from by rw [blockHalves_union]) $$ H8
  iapply (room_union (F := F) c outM (blockHalves_disjoint (last c))) $$ H8

/-- The result written block by block is the result written. -/
theorem out_joined (c : Dev nD) (Y : S4096x1024.Idx → Elt F .f32) :
    iprop(hold c outM (oR c).set fullShare Y ∗ hold c outM (oR (left c)).set fullShare Y ∗ hold c outM (oR (right c)).set fullShare Y ∗ hold c outM (oR (partner c)).set fullShare Y
        ∗ hold c outM (oR (left (left c))).set fullShare Y ∗ hold c outM (oR (right (right c))).set fullShare Y ∗ hold c outM (oR (opposite c)).set fullShare Y
        ∗ hold c outM (ohR (last c) 0).set fullShare Y ∗ hold c outM (ohR (last c) 1).set fullShare Y)
      ⊢ (hold c outM Finset.univ fullShare Y : sProp 𝕄) := by
  rw [hold_blocks c outM (fun o => (oR o).set) blocks_disjoint blocks_union, bigSep_origins c, ← blockHalves_union (last c),
    hold_union c outM (blockHalves_disjoint (last c))]

/-! ## The whole body -/

/-- What a device holds of the blocks it received, and of its own, beside what its transfers read. -/
def kept (c : Dev nD) : sProp 𝕄 :=
  iprop((keepO X c Finset.univ ∗ keepL X c Finset.univ ∗ keepR X c Finset.univ ∗ keepLL X c Finset.univ ∗ keepRR X c Finset.univ)
    ∗ (hold c c1M Finset.univ fullShare (X (partner c)) ∗ hold c c2M Finset.univ fullShare (X (opposite c))
      ∗ hold c c3M Finset.univ fullShare (halfOf 0 (X (last c))) ∗ hold c r3M Finset.univ fullShare (halfOf 1 (X (last c))))
    ∗ ((spare (even c) (spL X c 0) ∗ spare (!even c) (spR X c 0)) ∗ (spare (even c) (spL X c 1) ∗ spare (!even c) (spR X c 1))
      ∗ (spare (even c) (spL X c 2) ∗ spare (!even c) (spR X c 2)) ∗ (spare (even c) (spL X c 3) ∗ spare (!even c) (spR X c 3)))
    ∗ (spare (even c) (spLL X c 0) ∗ spare (!even c) (spRR X c 0))
    ∗ (spare (even c) (spRR X c 1) ∗ spare (!even c) (spLL X c 1)))

theorem keepO_join (c : Dev nD) : iprop(keepO X c (qR 0).set ∗ keepO X c (qR 1).set ∗ keepO X c (qR 2).set ∗ keepO X c (qR 3).set) ⊢ (hold c own8M Finset.univ fullShare.right.right (X c) : sProp 𝕄) :=
  Entails.of_eq (hold_quarters c own8M _ _).symm
theorem keepL_join (c : Dev nD) : iprop(keepL X c (qR 0).set ∗ keepL X c (qR 1).set ∗ keepL X c (qR 2).set ∗ keepL X c (qR 3).set) ⊢ (hold c l1M Finset.univ fullShare.right (X (left c)) : sProp 𝕄) :=
  Entails.of_eq (hold_quarters c l1M _ _).symm
theorem keepR_join (c : Dev nD) : iprop(keepR X c (qR 0).set ∗ keepR X c (qR 1).set ∗ keepR X c (qR 2).set ∗ keepR X c (qR 3).set) ⊢ (hold c r1M Finset.univ fullShare.right (X (right c)) : sProp 𝕄) :=
  Entails.of_eq (hold_quarters c r1M _ _).symm
theorem keepLL_join (c : Dev nD) : iprop(keepLL X c (hR 0).set ∗ keepLL X c (hR 1).set) ⊢ (hold c l2M Finset.univ fullShare.right (X (left (left c))) : sProp 𝕄) :=
  Entails.of_eq (hold_both c l2M _ _).symm
theorem keepRR_join (c : Dev nD) : iprop(keepRR X c (hR 0).set ∗ keepRR X c (hR 1).set) ⊢ (hold c r2M Finset.univ fullShare.right (X (right (right c))) : sProp 𝕄) :=
  Entails.of_eq (hold_both c r2M _ _).symm

set_option maxHeartbeats 1000000 in
/-- The body on device `c`, from the entry barrier to the last wait: the result's buffer holds every block's rows. -/
theorem body_run {Q : PUnit → sProp 𝕄} (c : Dev nD) (W : S4096x1024.Idx → Elt F .fp8e4m3)
    (f : Buf (Elt F) (sxM.view.loc (c : Thread nD τ))) (g : Buf (Elt F) (swM.view.loc (c : Thread nD τ))) :
    iprop(begins X K c ∗ hold c xM Finset.univ fullShare (X c) ∗ hold c wM Finset.univ fullShare W
        ∗ (sxM.view.loc (c : Thread nD τ) ↦{fullShare} f) ∗ (swM.view.loc (c : Thread nD τ) ↦{fullShare} g)
        ∗ room c outM Finset.univ ∗ room c own8M Finset.univ ∗ room c w8M Finset.univ)
      ⊢ iprop(((St X K c 26 26 26 ∗ semVal (barCell c) 0 ∗ hold c xM Finset.univ fullShare (X c) ∗ hold c wM Finset.univ fullShare W
          ∗ (sxM.view.loc (c : Thread nD τ) ↦{fullShare} f) ∗ (swM.view.loc (c : Thread nD τ) ↦{fullShare} g)
          ∗ hold c outM Finset.univ fullShare (OUT X c (k0_pay8 (smv sxM f) (smv swM g)) W) ∗ hold c w8M Finset.univ fullShare W ∗ kept X c) -∗ Q ⟨⟩)
        -∗ wp frame (wpE (defs₀ (F := F)) 𝒱₀ (c : Thread nD τ) none) Set.univ (cc0_body xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11) Q) := by
  rw [cc0_body_eq_skeleton]; unfold cc0_body_skel
  rw [wp_bind, k0_part29_eq_skeleton]; unfold k0_part29_skel
  simp only [Prog.lift, Prog.bind_op, Prog.bind_ret, Prog.pure_eq_ret]
  iintro ⟨HB, HX, HW, Hsx, Hsw, HO, Hown, H8⟩ Hk
  ihave HO := (out_rooms c) $$ HO
  icases HO with ⟨HOc, HOl, HOr, HOp, HOll, HOrr, HOo, HOt, HOb⟩
  ihave Hown := (room_quarters c own8M) $$ Hown
  icases Hown with ⟨Hq0, Hq1, Hq2, Hq3⟩
  iapply (part1_wp c)
  iintro %v2 %v23 %v25 %v26 %v37 %v39
  iapply (part2_wp c v23 v25 v26 v37 v39)
  iintro %v46 %v70 %v71 %v73 %v77 %v
  dsimp only
  iapply (@part3_wp F _ X K _ _ _ c v46 v70 v71 v77 v) $$ [HB HX]
  · isplitl [HB]; · iexact HB
    iexact HX
  iintro %v98 %v99 %v100
  dsimp only
  iintro  ⟨HS, Hbar, HX⟩
  iapply (@part4_wp F _ X K _ _ _ c v46 v70 v98) $$ [HS HX Hq0]
  · isplitl [HS]; · iexact HS
    isplitl [HX]; · iexact HX
    iexact Hq0
  iintro  ⟨HS, HX, Hq0⟩
  iapply (@part5_wp F _ X K _ _ _ c v46 v70 v98) $$ [HS HX Hq1]
  · isplitl [HS]; · iexact HS
    isplitl [HX]; · iexact HX
    iexact Hq1
  iintro  ⟨HS, HX, Hq1⟩
  iapply (@part6_wp F _ X K _ _ _ c v46 v70 v98) $$ [HS HX Hq2]
  · isplitl [HS]; · iexact HS
    isplitl [HX]; · iexact HX
    iexact Hq2
  iintro  ⟨HS, HX, Hq2⟩
  iapply (@part7_wp F _ X K _ _ _ c v46 v70 v98) $$ [HS HX Hq3]
  · isplitl [HS]; · iexact HS
    isplitl [HX]; · iexact HX
    iexact Hq3
  iintro  ⟨HS, HX, Hq3⟩
  ihave Hown := (keepO_join X c) $$ [Hq0 Hq1 Hq2 Hq3]
  · isplitl [Hq0]; · iexact Hq0
    isplitl [Hq1]; · iexact Hq1
    isplitl [Hq2]; · iexact Hq2
    iexact Hq3
  iapply (@part8_wp F _ X K _ _ _ c v2 v46 W f g) $$ [HS HW Hsx Hsw H8 Hown HOc]
  · isplitl [HS]; · iexact HS
    isplitl [HW]; · iexact HW
    isplitl [Hsx]; · iexact Hsx
    isplitl [Hsw]; · iexact Hsw
    isplitl [H8]; · iexact H8
    isplitl [Hown]; · iexact Hown
    iexact HOc
  iintro  ⟨HS, Hp, HW, Hsx, Hsw, H8, Hown, HOc⟩
  iapply (@part9_wp F _ X K _ _ _ c v46 v70 v98 v99 v100) $$ [HS Hp]
  · isplitl [HS]; · iexact HS
    iexact Hp
  iintro  ⟨HS, Ha0, HL0, Hb0, HR0⟩
  iapply (@part10_wp F _ X K _ _ _ c v46 v70 v98 v99) $$ HS
  iintro  ⟨HS, Ha1, HL1, Hp⟩
  iapply (@part11_wp F _ X K _ _ _ c v46 v70 v98 v99 v100) $$ [HS Hp]
  · isplitl [HS]; · iexact HS
    iexact Hp
  iintro  ⟨HS, Hb1, HR1, Ha2, HL2, Hp⟩
  iapply (@part12_wp F _ X K _ _ _ c v46 v70 v98 v99 v100) $$ [HS Hp]
  · isplitl [HS]; · iexact HS
    iexact Hp
  iintro  ⟨HS, Hb2, HR2, Ha3, HL3⟩
  iapply (@part13_wp F _ X K _ _ _ c v23 v70 v98 v100) $$ [HS Ha3]
  · isplitl [HS]; · iexact HS
    iexact Ha3
  iintro %w1 %w2 %w3 %w4 %w5 %w6
  dsimp only
  iintro  ⟨HS, Ha3, Hb3, HR3⟩
  ihave HL := (keepL_join X c) $$ [HL0 HL1 HL2 HL3]
  · isplitl [HL0]; · iexact HL0
    isplitl [HL1]; · iexact HL1
    isplitl [HL2]; · iexact HL2
    iexact HL3
  ihave HR := (keepR_join X c) $$ [HR0 HR1 HR2 HR3]
  · isplitl [HR0]; · iexact HR0
    isplitl [HR1]; · iexact HR1
    isplitl [HR2]; · iexact HR2
    iexact HR3
  iapply (@part14_wp F _ X _ _ _ c v23 w1 w2 w3 w4 w5 w6 W _) $$ [HL H8 HOl]
  · isplitl [HL]; · iexact HL
    isplitl [H8]; · iexact H8
    iexact HOl
  iintro %u1 %u2 %u3 %u4
  dsimp only
  iintro  ⟨HL, H8, HOl⟩
  iapply (@part15_wp F _ X K _ _ _ c v98 u1 u2 u3 u4 W _) $$ [HS HR H8 HOr]
  · isplitl [HS]; · iexact HS
    isplitl [HR]; · iexact HR
    isplitl [H8]; · iexact H8
    iexact HOr
  iintro  ⟨HS, Hp, HR, H8, HOr⟩
  iapply (@part16_wp F _ X K _ _ _ c v46 v98 W _) $$ [HS Hp H8 HOp]
  · isplitl [HS]; · iexact HS
    isplitl [Hp]; · iexact Hp
    isplitl [H8]; · iexact H8
    iexact HOp
  iintro  ⟨HS, Hc1, H8, HOp⟩
  iapply (@part17_wp F _ X K _ _ _ c v46 v70 v98 v99 v100) $$ HS
  iintro %v501
  dsimp only
  iintro  ⟨HS, Hd0, HLL0, He0, HRR0⟩
  iapply (@part18_wp F _ X K _ _ _ c v46 v70 v98 v100 v501) $$ [HS He0]
  · isplitl [HS]; · iexact HS
    iexact He0
  iintro %y1 %y2
  dsimp only
  iintro  ⟨HS, He0, Hd1, HLL1, Hp⟩
  ihave HLL := (keepLL_join X c) $$ [HLL0 HLL1]
  · isplitl [HLL0]; · iexact HLL0
    iexact HLL1
  iapply (@part19_wp F _ X K _ _ _ c v23 v70 v99 y1 y2 W) $$ [HS Hp HLL H8]
  · isplitl [HS]; · iexact HS
    isplitl [Hp]; · iexact Hp
    isplitl [HLL]; · iexact HLL
    iexact H8
  iintro %y3
  dsimp only
  iintro  ⟨HS, He1, HRR1, HLL, H8⟩
  ihave HRR := (keepRR_join X c) $$ [HRR0 HRR1]
  · isplitl [HRR0]; · iexact HRR0
    iexact HRR1
  iapply (@part20_wp F _ X _ _ _ c v23 y3 W _) $$ [HRR H8 HOll]
  · isplitl [HRR]; · iexact HRR
    isplitl [H8]; · iexact H8
    iexact HOll
  iintro %y4
  dsimp only
  iintro  ⟨HRR, H8, HOll⟩
  iapply (@part21_wp F _ X K _ _ _ c v98 y4 W _) $$ [HS HOrr]
  · isplitl [HS]; · iexact HS
    iexact HOrr
  iintro  ⟨HS, Hp0, Hp1, Hp2, HOrr⟩
  iapply (@part22_wp F _ X K _ _ _ c v23 W _) $$ [HS Hp0 Hp1 Hp2 H8]
  · isplitl [HS]; · iexact HS
    isplitl [Hp0]; · iexact Hp0
    isplitl [Hp1]; · iexact Hp1
    isplitl [Hp2]; · iexact Hp2
    iexact H8
  iintro  ⟨HS, Hc2, H8⟩
  iapply (@part23_wp F _ X K _ _ _ c v23 v73 v98 W _) $$ [HS H8 HOo]
  · isplitl [HS]; · iexact HS
    isplitl [H8]; · iexact H8
    iexact HOo
  iintro %y5
  dsimp only
  iintro  ⟨HS, Hc3, H8, HOo⟩
  iapply (@part24_wp F _ X K _ _ _ c v70 y5 W _) $$ [HS H8 HOt HOb]
  · isplitl [HS]; · iexact HS
    isplitl [H8]; · iexact H8
    isplitl [HOt]; · iexact HOt
    iexact HOb
  iintro  ⟨HS, Hr3, H8, HOt, HOb⟩
  iapply (@part25_wp F _ X K _ _ _ c) $$ HS
  iintro  HS
  iapply (@part26_wp F _ X K _ _ _ c) $$ HS
  iintro  HS
  iapply (@part27_wp F _ X K _ _ _ c) $$ HS
  iintro  HS
  iapply (@part28_wp F _ X K _ _ _ c) $$ HS
  iintro  HS
  iapply (drain_rows X K 21 26 21 rfl l1M (qR 1) rfl rfl) $$ HS
  iintro HS
  iapply (drain_rows X K 22 26 22 rfl l1M (qR 2) rfl rfl) $$ HS
  iintro HS
  rw [wp_ret]; imodintro
  iapply (drain_rows X K 23 26 23 rfl l1M (qR 3) rfl rfl) $$ HS
  iintro HS
  iapply (drain_rows X K 24 26 24 rfl l2M (hR 0) rfl rfl) $$ HS
  iintro HS
  iapply (drain_rows X K 25 26 25 rfl r2M (hR 1) rfl rfl) $$ HS
  iintro HS
  rw [wp_ret]; imodintro; iapply Hk
  isplitl [HS]; · iexact HS
  isplitl [Hbar]; · iexact Hbar
  isplitl [HX]; · iexact HX
  isplitl [HW]; · iexact HW
  isplitl [Hsx]; · iexact Hsx
  isplitl [Hsw]; · iexact Hsw
  isplitl [HOc HOl HOr HOp HOll HOrr HOo HOt HOb]
  · iapply (out_joined c _)
    isplitl [HOc]; · iexact HOc
    isplitl [HOl]; · iexact HOl
    isplitl [HOr]; · iexact HOr
    isplitl [HOp]; · iexact HOp
    isplitl [HOll]; · iexact HOll
    isplitl [HOrr]; · iexact HOrr
    isplitl [HOo]; · iexact HOo
    isplitl [HOt]; · iexact HOt
    iexact HOb
  isplitl [H8]; · iexact H8
  unfold kept keepO keepL keepR keepLL keepRR
  isplitl [Hown HL HR HLL HRR]
  · isplitl [Hown]; · iexact Hown
    isplitl [HL]; · iexact HL
    isplitl [HR]; · iexact HR
    isplitl [HLL]; · iexact HLL
    iexact HRR
  isplitl [Hc1 Hc2 Hc3 Hr3]
  · isplitl [Hc1]; · iexact Hc1
    isplitl [Hc2]; · iexact Hc2
    isplitl [Hc3]; · iexact Hc3
    iexact Hr3
  isplitl [Ha0 Hb0 Ha1 Hb1 Ha2 Hb2 Ha3 Hb3]
  · isplitl [Ha0 Hb0]
    · isplitl [Ha0]; · iexact Ha0
      iexact Hb0
    isplitl [Ha1 Hb1]
    · isplitl [Ha1]; · iexact Ha1
      iexact Hb1
    isplitl [Ha2 Hb2]
    · isplitl [Ha2]; · iexact Ha2
      iexact Hb2
    isplitl [Ha3]; · iexact Ha3
    iexact Hb3
  isplitl [Hd0 He0]
  · isplitl [Hd0]; · iexact Hd0
    iexact He0
  isplitl [He1]; · iexact He1
  iexact Hd1

end Cert.RingProof
-- ==== Proof.Ends.lean ====
/-
# Before the first transfer and after the last wait

A device's buffers are the places its neighbours write; after the last wait every block is whole again and every semaphore closed.
-/
module

public import proofs.«01_k».proof.Proof.Drain

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x4096.Idx → Elt F .fp8e4m3) (K : Dev nD × Fin 53 → ℕ)

/-! ## The transfers by groups -/

theorem all_transfers : (Finset.univ : Finset (Fin 26)) = [kA 0, kA 1, kA 2, kA 3, kB 0, kB 1, kB 2, kB 3, kC 0, kC 1, kC 2, kC 3, kA2 0, kA2 1, kA2 2, kA2 3, kB2 0, kB2 1, kB2 2, kB2 3, kC2 0, kC2 1, kC2 2, kC2 3, 24, 25].toFinset := by decide
theorem all_transfers_nodup : ([kA 0, kA 1, kA 2, kA 3, kB 0, kB 1, kB 2, kB 3, kC 0, kC 1, kC 2, kC 3, kA2 0, kA2 1, kA2 2, kA2 3, kB2 0, kB2 1, kB2 2, kB2 3, kC2 0, kC2 1, kC2 2, kC2 3, 24, 25] : List (Fin 26)).Nodup := by decide

/-- All transfers, by group and quarter. -/
theorem bigSep_groups (Φ : Fin 26 → sProp 𝕄) :
    bigSep Finset.univ Φ ⊣⊢ iprop((bigSep Finset.univ fun q => Φ (kA q)) ∗ (bigSep Finset.univ fun q => Φ (kB q)) ∗ (bigSep Finset.univ fun q => Φ (kC q))
      ∗ (bigSep Finset.univ fun q => Φ (kA2 q)) ∗ (bigSep Finset.univ fun q => Φ (kB2 q)) ∗ (bigSep Finset.univ fun q => Φ (kC2 q)) ∗ Φ 24 ∗ Φ 25) := by
  rw [bigSep_four, bigSep_four, bigSep_four, bigSep_four, bigSep_four, bigSep_four,
    show bigSep Finset.univ Φ = iprop(Φ (kA 0) ∗ Φ (kA 1) ∗ Φ (kA 2) ∗ Φ (kA 3) ∗ Φ (kB 0) ∗ Φ (kB 1) ∗ Φ (kB 2) ∗ Φ (kB 3) ∗ Φ (kC 0) ∗ Φ (kC 1) ∗ Φ (kC 2) ∗ Φ (kC 3) ∗ Φ (kA2 0) ∗ Φ (kA2 1) ∗ Φ (kA2 2) ∗ Φ (kA2 3) ∗ Φ (kB2 0) ∗ Φ (kB2 1) ∗ Φ (kB2 2) ∗ Φ (kB2 3) ∗ Φ (kC2 0) ∗ Φ (kC2 1) ∗ Φ (kC2 2) ∗ Φ (kC2 3) ∗ Φ 24 ∗ Φ 25) from
      bigSep_univ_eq_bigSepL _ all_transfers all_transfers_nodup Φ]
  refine ⟨?_, ?_⟩
  · iintro ⟨H0, H1, H2, H3, H4, H5, H6, H7, H8, H9, H10, H11, H12, H13, H14, H15, H16, H17, H18, H19, H20, H21, H22, H23, H24, H25⟩
    isplitl [H0 H1 H2 H3]
    · isplitl [H0]; · iexact H0
      isplitl [H1]; · iexact H1
      isplitl [H2]; · iexact H2
      iexact H3
    isplitl [H4 H5 H6 H7]
    · isplitl [H4]; · iexact H4
      isplitl [H5]; · iexact H5
      isplitl [H6]; · iexact H6
      iexact H7
    isplitl [H8 H9 H10 H11]
    · isplitl [H8]; · iexact H8
      isplitl [H9]; · iexact H9
      isplitl [H10]; · iexact H10
      iexact H11
    isplitl [H12 H13 H14 H15]
    · isplitl [H12]; · iexact H12
      isplitl [H13]; · iexact H13
      isplitl [H14]; · iexact H14
      iexact H15
    isplitl [H16 H17 H18 H19]
    · isplitl [H16]; · iexact H16
      isplitl [H17]; · iexact H17
      isplitl [H18]; · iexact H18
      iexact H19
    isplitl [H20 H21 H22 H23]
    · isplitl [H20]; · iexact H20
      isplitl [H21]; · iexact H21
      isplitl [H22]; · iexact H22
      iexact H23
    isplitl [H24]; · iexact H24
    iexact H25
  · iintro ⟨⟨H0, H1, H2, H3⟩, ⟨H4, H5, H6, H7⟩, ⟨H8, H9, H10, H11⟩, ⟨H12, H13, H14, H15⟩, ⟨H16, H17, H18, H19⟩, ⟨H20, H21, H22, H23⟩, H24, H25⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

/-! ## The places the neighbours write -/

theorem blocks_slots (c : Dev nD) :
    (iprop(room c l1M Finset.univ ∗ room c l2M Finset.univ ∗ room c r1M Finset.univ ∗ room c r2M Finset.univ ∗ room c c1M Finset.univ ∗ room c c2M Finset.univ
        ∗ room c c3M Finset.univ ∗ room c r3M Finset.univ) : sProp 𝕄) ⊢ bigSep Finset.univ fun k => slot (F := F) c k := by
  have cut (m : M512) (κ : Fin 4 → Fin 26) (h : ∀ q, slot (F := F) c (κ q) = room c m (qR q).set) :
      (room c m Finset.univ : sProp 𝕄) ⊢ bigSep Finset.univ fun q => slot (F := F) c (κ q) := by
    rw [bigSep_congr (s := Finset.univ) fun q _ => h q]
    exact room_blocks (F := F) c m (fun b => (qR b).set) qR_disjoint qR_cover
  iintro ⟨Hl1, Hl2, Hr1, Hr2, Hc1, Hc2, Hc3, Hr3⟩
  iapply (bigSep_groups (fun k => slot (F := F) c k)).2
  isplitl [Hl1]; · iapply (cut l1M kA (fun q => by fin_cases q <;> rfl)) $$ Hl1
  isplitl [Hr1]; · iapply (cut r1M kB (fun q => by fin_cases q <;> rfl)) $$ Hr1
  isplitl [Hc1]; · iapply (cut c1M kC (fun q => by fin_cases q <;> rfl)) $$ Hc1
  isplitl [Hl2]; · iapply (cut l2M kA2 (fun q => by fin_cases q <;> rfl)) $$ Hl2
  isplitl [Hr2]; · iapply (cut r2M kB2 (fun q => by fin_cases q <;> rfl)) $$ Hr2
  isplitl [Hc2]; · iapply (cut c2M kC2 (fun q => by fin_cases q <;> rfl)) $$ Hc2
  isplitl [Hc3]; · iapply (show (room c c3M Finset.univ : sProp 𝕄) ⊢ slot c 24 from Entails.of_eq rfl) $$ Hc3
  iapply (show (room c r3M Finset.univ : sProp 𝕄) ⊢ slot c 25 from Entails.of_eq rfl) $$ Hr3

/-! ## The blocks whole again -/

/-- What is held of each quarter is held of the block. -/
theorem quarters_back (c : Dev nD) (m : M512) (q : PosShare TreeShare) (Y : S512x4096.Idx → Elt F .fp8e4m3) {P : Fin 4 → sProp 𝕄}
    (h : ∀ i, P i ⊢ hold c m (qR i).set q Y) : bigSep Finset.univ P ⊢ (hold c m Finset.univ q Y : sProp 𝕄) := by
  rw [hold_blocks c m (fun b => (qR b).set) qR_disjoint qR_cover]
  exact bigSep_mono fun i _ => h i

theorem own_back (c : Dev nD) :
    (iprop((bigSep Finset.univ fun q => sendPay X c (kA q)) ∗ (bigSep Finset.univ fun q => sendPay X c (kB q)) ∗ (bigSep Finset.univ fun q => sendPay X c (kC q))
      ∗ keepO X c Finset.univ) : sProp 𝕄) ⊢ room c own8M Finset.univ := by
  have e : (keepO X c Finset.univ : sProp 𝕄) = bigSep Finset.univ fun q => keepO X c (qR q).set :=
    hold_blocks c own8M (fun b => (qR b).set) qR_disjoint qR_cover _ _
  rw [e, ← bigSep_sep', ← bigSep_sep', ← bigSep_sep']
  refine (quarters_back c own8M fullShare (X c) fun q => ?_).trans (room_of_hold c own8M)
  rw [own_cut]
  iintro ⟨H1, H2, H3, H4⟩
  isplitl [H1 H2]
  · isplitl [H1]; · iexact H1
    iexact H2
  isplitl [H3]; · iexact H3
  iexact H4
theorem left_back (c : Dev nD) :
    (iprop((bigSep Finset.univ fun q => sendPay X c (kA2 q)) ∗ (bigSep Finset.univ fun q => spL X c q) ∗ keepL X c Finset.univ) : sProp 𝕄)
      ⊢ room c l1M Finset.univ := by
  have e : (keepL X c Finset.univ : sProp 𝕄) = bigSep Finset.univ fun q => keepL X c (qR q).set :=
    hold_blocks c l1M (fun b => (qR b).set) qR_disjoint qR_cover _ _
  rw [e, ← bigSep_sep', ← bigSep_sep']
  refine (quarters_back c l1M fullShare (X (left c)) fun q => ?_).trans (room_of_hold c l1M)
  refine BIBase.Entails.trans ?_ (show (recvPay X c (kA q) : sProp 𝕄) ⊢ _ from Entails.of_eq (by fin_cases q <;> rfl))
  rw [left_cut]
  iintro ⟨H1, H2, H3⟩
  isplitl [H1 H2]
  · isplitl [H1]; · iexact H1
    iexact H2
  iexact H3
theorem right_back (c : Dev nD) :
    (iprop((bigSep Finset.univ fun q => sendPay X c (kB2 q)) ∗ (bigSep Finset.univ fun q => spR X c q) ∗ keepR X c Finset.univ) : sProp 𝕄)
      ⊢ room c r1M Finset.univ := by
  have e : (keepR X c Finset.univ : sProp 𝕄) = bigSep Finset.univ fun q => keepR X c (qR q).set :=
    hold_blocks c r1M (fun b => (qR b).set) qR_disjoint qR_cover _ _
  rw [e, ← bigSep_sep', ← bigSep_sep']
  refine (quarters_back c r1M fullShare (X (right c)) fun q => ?_).trans (room_of_hold c r1M)
  refine BIBase.Entails.trans ?_ (show (recvPay X c (kB q) : sProp 𝕄) ⊢ _ from Entails.of_eq (by fin_cases q <;> rfl))
  rw [right_cut]
  iintro ⟨H1, H2, H3⟩
  isplitl [H1 H2]
  · isplitl [H1]; · iexact H1
    iexact H2
  iexact H3
theorem across_back (c : Dev nD) :
    (iprop((bigSep Finset.univ fun q => sendPay X c (kC2 q)) ∗ ((spare (even c) (spL X c 0) ∗ spare (!even c) (spR X c 0)) ∗ (spare (even c) (spL X c 1) ∗ spare (!even c) (spR X c 1))
      ∗ (spare (even c) (spL X c 2) ∗ spare (!even c) (spR X c 2)) ∗ (spare (even c) (spL X c 3) ∗ spare (!even c) (spR X c 3)))) : sProp 𝕄)
      ⊢ iprop((bigSep Finset.univ fun q => spL X c q) ∗ (bigSep Finset.univ fun q => spR X c q)) := by
  rw [← bigSep_four (fun q => iprop(spare (even c) (spL X c q) ∗ spare (!even c) (spR X c q))), ← bigSep_sep', ← bigSep_sep']
  exact bigSep_mono fun q _ => quarter_back X c q
theorem left2_back (c : Dev nD) : (iprop((spLL X c 0 ∗ spLL X c 1) ∗ keepLL X c Finset.univ) : sProp 𝕄) ⊢ room c l2M Finset.univ := by
  refine BIBase.Entails.trans ?_ (room_of_hold c l2M (X := X (left (left c))))
  rw [hold_halves c l2M Finset.univ fullShare, hold_both c l2M fullShare.left]; exact Entails.of_eq rfl
theorem right2_back (c : Dev nD) : (iprop((spRR X c 0 ∗ spRR X c 1) ∗ keepRR X c Finset.univ) : sProp 𝕄) ⊢ room c r2M Finset.univ := by
  refine BIBase.Entails.trans ?_ (room_of_hold c r2M (X := X (right (right c))))
  rw [hold_halves c r2M Finset.univ fullShare, hold_both c r2M fullShare.left]; exact Entails.of_eq rfl

/-- After the last wait: every semaphore is closed, nothing is owed, and every block's buffer is whole again. -/
theorem ends (c : Dev nD) :
    (iprop(St X K c 26 26 26 ∗ kept X c) : sProp 𝕄)
      ⊢ iprop((bigSep Finset.univ fun k => semVal (sendCell c k) 0) ∗ (bigSep Finset.univ fun k => semVal (recvCell c k) 0)
        ∗ (∃ W, owes (c : Thread nD τ) 0 W)
        ∗ (room c own8M Finset.univ ∗ room c l1M Finset.univ ∗ room c l2M Finset.univ ∗ room c r1M Finset.univ ∗ room c r2M Finset.univ
          ∗ room c c1M Finset.univ ∗ room c c2M Finset.univ ∗ room c c3M Finset.univ ∗ room c r3M Finset.univ)) := by
  have hs : (bigSep Finset.univ fun k => sendSt X c 26 26 k)
      = iprop((bigSep Finset.univ fun k => semVal (sendCell c k) 0) ∗ (bigSep Finset.univ fun k => sendPay X c k)) := by
    rw [← bigSep_sep']; exact bigSep_congr fun k _ => if_pos k.isLt
  have hr : (bigSep Finset.univ fun k => recvSt (F := F) c 26 k) = bigSep Finset.univ fun k => semVal (recvCell c k) 0 :=
    bigSep_congr fun k _ => if_pos (rord_lt k)
  unfold St Proto kept
  rw [hs, hr, owed_end]
  iintro ⟨⟨-, -, ⟨Hsem, Hpay⟩, Hrecv, Howes⟩, ⟨Hown, HL, HR, HLL, HRR⟩, ⟨Hc1, Hc2, Hc3, Hr3⟩, Hq, Hh1, Hh2⟩
  ihave Hpay := (bigSep_groups (fun k => sendPay X c k)).1 $$ Hpay
  icases Hpay with ⟨HA, HB, HC, HA2, HB2, HC2, H24, H25⟩
  ihave Hq := (across_back X c) $$ [HC2 Hq]
  · isplitl [HC2]; · iexact HC2
    iexact Hq
  icases Hq with ⟨HspL, HspR⟩
  ihave Hh := (half_back X c) $$ [H24 H25 Hh1 Hh2]
  · isplitl [H24 H25]
    · isplitl [H24]; · iexact H24
      iexact H25
    isplitl [Hh1]; · iexact Hh1
    iexact Hh2
  icases Hh with ⟨HspLL, HspRR⟩
  isplitl [Hsem]; · iexact Hsem
  isplitl [Hrecv]; · iexact Hrecv
  isplitl [Howes]; · iexact Howes
  isplitl [HA HB HC Hown]
  · iapply (own_back X c)
    isplitl [HA]; · iexact HA
    isplitl [HB]; · iexact HB
    isplitl [HC]; · iexact HC
    iexact Hown
  isplitl [HA2 HspL HL]
  · iapply (left_back X c)
    isplitl [HA2]; · iexact HA2
    isplitl [HspL]; · iexact HspL
    iexact HL
  isplitl [HspLL HLL]
  · iapply (left2_back X c)
    isplitl [HspLL]; · iexact HspLL
    iexact HLL
  isplitl [HB2 HspR HR]
  · iapply (right_back X c)
    isplitl [HB2]; · iexact HB2
    isplitl [HspR]; · iexact HspR
    iexact HR
  isplitl [HspRR HRR]
  · iapply (right2_back X c)
    isplitl [HspRR]; · iexact HspRR
    iexact HRR
  isplitl [Hc1]; · iapply (room_of_hold c c1M) $$ Hc1
  isplitl [Hc2]; · iapply (room_of_hold c c2M) $$ Hc2
  isplitl [Hc3]; · iapply (room_of_hold c c3M) $$ Hc3
  iapply (room_of_hold c r3M) $$ Hr3

end Cert.RingProof
-- ==== Proof.Data.lean ====
/-
# The launch's data

What each device holds before and after the body, and the body between them.
-/
module

public import proofs.«01_k».proof.Proof.Ends
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Contents -/

/-- What the staging buffer of `x` holds on device `c` once fetched; of `w`; of the two scales. -/
def Xs (c : Dev nD) : S512x4096.Idx → Elt F .fp8e4m3 := (win0_0.blk (0 : Fin 1)).view.read (Elt F) (m ((c : Thread nD τ).loc main_arg0))
def Ws (c : Dev nD) : S4096x1024.Idx → Elt F .fp8e4m3 := (win0_1.blk (0 : Fin 1)).view.read (Elt F) (m ((c : Thread nD τ).loc main_arg1))
def SXs (c : Dev nD) : S1.Idx → Elt F .f32 := (win0_2.blk (0 : Fin 1)).view.read (Elt F) (m ((c : Thread nD τ).loc main_arg2))
def SWs (c : Dev nD) : S1.Idx → Elt F .f32 := (win0_3.blk (0 : Fin 1)).view.read (Elt F) (m ((c : Thread nD τ).loc main_arg3))

/-- What device `c` computes. -/
def RES (c : Dev nD) : S4096x1024.Idx → Elt F .f32 := OUT (Xs m) c (k0_pay8 (smv sxM (SXs m c)) (smv swM (SWs m c))) (Ws m c)

/-! ## What a device holds before and after the body -/

/-- The protocol's part of the start: invariants, tokens and positions. -/
def linear (c : Dev nD) : sProp 𝕄 :=
  iprop((bigSep Finset.univ fun k => unarmed (F := F) c k) ∗ (bigSep Finset.univ fun k => atPos ER (recvCell c k) 0 ∅ 0)
    ∗ (dutyTok ER (barCell (left c)) 0 0 ∗ dutyTok ER (barCell (right c)) 0 1 ∗ dutyTok ER (barCell (partner c)) 0 2) ∗ atPos ER (barCell c) 0 ∅ 0)

def ghost (c : Dev nD) : sProp 𝕄 := iprop(∃ K, records (Xs m) K ∗ linear (F := F) c)

/-- The start: the protocol's part, the levels, and credit for every unit the device's own semaphores will receive. -/
def start (c : Dev nD) : sProp 𝕄 :=
  iprop(ghost m c ∗ levAts L lv ∗ cred (tallyAt (barCell c) () 3) ∗ bigSep Finset.univ fun k => cred (tallyAt (recvCell c k) () (Nk k)))

/-- The ten scratch buffers, each whole with some contents. -/
def scratch (c : Dev nD) : sProp 𝕄 :=
  iprop(room c own8M Finset.univ ∗ room c l1M Finset.univ ∗ room c l2M Finset.univ ∗ room c r1M Finset.univ ∗ room c r2M Finset.univ
    ∗ room c c1M Finset.univ ∗ room c c2M Finset.univ ∗ room c c3M Finset.univ ∗ room c r3M Finset.univ ∗ room c w8M Finset.univ)

def Φ₀ (c : Dev nD) : sProp 𝕄 := iprop(start m c ∗ scratch (F := F) c)
def Φ₁ (c : Dev nD) : sProp 𝕄 :=
  iprop(semVal (barCell c) 0 ∗ (bigSep Finset.univ fun k => semVal (sendCell c k) 0) ∗ (bigSep Finset.univ fun k => semVal (recvCell c k) 0) ∗ scratch (F := F) c)

/-- The proof data of the launch. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m c
    | ⟨1, _⟩ => Ws m c
    | ⟨2, _⟩ => SXs m c
    | ⟨3, _⟩ => SWs m c
    | ⟨4, _⟩ => RES m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## A buffer whole, and its parts' assertions -/

theorem room_whole (c : Dev nD) {s : Shape} {e : EltTy} (M : Memref sig .tc .vmem s e) (hm : M.view.setOn Finset.univ = Finset.univ) :
    (room c M Finset.univ : sProp 𝕄) = iprop(∃ f : Buf (Elt F) (M.view.loc (c : Thread nD τ)), M.view.loc (c : Thread nD τ) ↦{fullShare} f) := by
  unfold room; rw [hm]

theorem setOn_whole {b : Ref sig .tc} : (Memref.whole b).view.setOn Finset.univ = Finset.univ := by
  exact View.set_whole _

theorem scratch_eq (c : Dev nD) : (Pipeline.scopedRest (Ix := Unit) (Name := ℕ) (U := UU) (Lvl := ℕ) (Val := Elt F) spec0 c : sProp 𝕄) = scratch c := by
  rw [scopedRest0_eq]
  unfold scratch
  rw [room_whole c own8M setOn_whole, room_whole c l1M setOn_whole, room_whole c l2M setOn_whole, room_whole c r1M setOn_whole, room_whole c r2M setOn_whole,
    room_whole c c1M setOn_whole, room_whole c c2M setOn_whole, room_whole c c3M setOn_whole, room_whole c r3M setOn_whole, room_whole c w8M setOn_whole]

/-- A staging buffer at known contents. -/
abbrev stg (c : Dev nD) (b : Ref sig .tc) (Y : b.ty.Contents (Elt F)) : sProp 𝕄 :=
  iprop(∃ f : Buf (Elt F) ((c : Thread nD τ).loc b), ⌜f = Y⌝ ∗ ((c : Thread nD τ).loc b ↦{fullShare} f))

theorem owns_stg (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

/-! ## The body -/

/-- What `body_run` starts from, out of the launch's start. -/
theorem begins_of (K : Dev nD × Fin 53 → ℕ) (c : Dev nD) (W : Waits sig Unit) :
    (iprop((records (Xs m) K ∗ linear (F := F) c) ∗ (levAts L lv ∗ cred (tallyAt (barCell c) () 3) ∗ bigSep Finset.univ fun k => cred (tallyAt (recvCell c k) () (Nk k)))
        ∗ (bigSep Finset.univ fun k => slot (F := F) c k) ∗ owes (c : Thread nD τ) (O₀ c) W) : sProp 𝕄)
      ⊢ begins (Xs m) K c := by
  unfold linear begins
  iintro ⟨⟨HR, HU, HaR, HT, HaB⟩, ⟨HL, HcB, HcR⟩, HS, HO⟩
  isplitl [HR]; · iexact HR
  isplitl [HL]; · iexact HL
  isplitl [HU]; · iexact HU
  isplitl [HaR HcR]
  · iapply (show (iprop((bigSep Finset.univ fun k => cred (tallyAt (recvCell c k) () (Nk k))) ∗ bigSep Finset.univ fun k => atPos ER (recvCell c k) 0 ∅ 0) : sProp 𝕄)
        ⊢ bigSep Finset.univ fun k => recvSt (F := F) c 0 k from by
      rw [← bigSep_sep']
      refine bigSep_mono fun k _ => ?_
      unfold recvSt
      rw [if_neg (Nat.not_lt_zero _)]
      exact BI.Entails.refl _)
    isplitl [HcR]; · iexact HcR
    iexact HaR
  isplitl [HT]; · iexact HT
  isplitl [HS]; · iexact HS
  isplitl [HaB]; · iexact HaB
  isplitl [HcB]; · iexact HcB
  iexists W; iexact HO

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ
    ∗
    stg c cc0_stg0_0 ((dats m ρ 0 c).after (0 : Fin 5) t0_0) ∗ stg c cc0_stg1_0 ((dats m ρ 0 c).after (1 : Fin 5) t0_0) ∗ stg c cc0_stg2_0 ((dats m ρ 0 c).after (2 : Fin 5) t0_0) ∗ stg c cc0_stg3_0 ((dats m ρ 0 c).after (3 : Fin 5) t0_0) ∗ stg c cc0_stg4_0 ((dats m ρ 0 c).after (4 : Fin 5) t0_0))

set_option maxHeartbeats 1000000 in
/-- The body takes the launch's start to the launch's end. -/
theorem body_sound (c : Dev nD) :
    bodyPre m ρ c ⊢ wp frame (wpE (defs₀ (F := F)) 𝒱₀ (c : Thread nD τ) none) Set.univ (cc0_body xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11)
      (fun _ => bodyPost m ρ c) := by
  unfold bodyPre Φ₀ start ghost scratch Dat.owesAt Pipeline.owesWithin
  rw [show (dats m ρ 0 c).owed t0_0.castSucc = O₀ c from rfl]
  iintro ⟨⟨⟨⟨%K, HG⟩, HC⟩, Hown, Hl1, Hl2, Hr1, Hr2, Hc1, Hc2, Hc3, Hr3, H8⟩, ⟨%W, %hW, HO⟩, ⟨%d0, %g0, %h0, Hx⟩, ⟨%d1, %g1, %h1, Hw⟩, ⟨%d2, %g2, %h2, Hsx⟩, ⟨%d3, %g3, %h3, Hsw⟩, ⟨%d4, %g4, %h4, Hout⟩⟩
  have e0 : g0 = Xs m c := by rw [h0]; unfold Dat.before; rw [if_pos (fetch0_0 t0_0)]; rfl
  have e1 : g1 = Ws m c := by rw [h1]; unfold Dat.before; rw [if_pos (fetch0_1 t0_0)]; rfl
  have e2 : g2 = SXs m c := by rw [h2]; unfold Dat.before; rw [if_pos (fetch0_2 t0_0)]; rfl
  have e3 : g3 = SWs m c := by rw [h3]; unfold Dat.before; rw [if_pos (fetch0_3 t0_0)]; rfl
  subst e0 e1 e2 e3
  ihave HS := (blocks_slots c) $$ [Hl1 Hl2 Hr1 Hr2 Hc1 Hc2 Hc3 Hr3]
  · isplitl [Hl1]; · iexact Hl1
    isplitl [Hl2]; · iexact Hl2
    isplitl [Hr1]; · iexact Hr1
    isplitl [Hr2]; · iexact Hr2
    isplitl [Hc1]; · iexact Hc1
    isplitl [Hc2]; · iexact Hc2
    isplitl [Hc3]; · iexact Hc3
    iexact Hr3
  ihave HB := (begins_of m K c W) $$ [HG HC HS HO]
  · isplitl [HG]; · iexact HG
    isplitl [HC]; · iexact HC
    isplitl [HS]; · iexact HS
    iexact HO
  iapply (@body_run F _ (Xs m) K _ c (Ws m c) (SXs m c) (SWs m c)) $$ [HB Hx Hw Hsx Hsw Hout Hown H8]
  · isplitl [HB]; · iexact HB
    isplitl [Hx]
    · iapply (show (((c : Thread nD τ).loc cc0_stg0_0 ↦{fullShare} Xs m c) : sProp 𝕄) ⊢ hold c xM Finset.univ fullShare (Xs m c) from
        Entails.of_eq (hold_whole c xM setOn_whole fullShare (Xs m c))) $$ Hx
    isplitl [Hw]
    · iapply (show (((c : Thread nD τ).loc cc0_stg1_0 ↦{fullShare} Ws m c) : sProp 𝕄) ⊢ hold c wM Finset.univ fullShare (Ws m c) from
        Entails.of_eq (hold_whole c wM setOn_whole fullShare (Ws m c))) $$ Hw
    isplitl [Hsx]; · iexact Hsx
    isplitl [Hsw]; · iexact Hsw
    isplitl [Hout]
    · rw [room_whole c outM setOn_whole]
      iexists g4; iexact Hout
    isplitl [Hown]; · iexact Hown
    iexact H8
  iintro ⟨HSt, HbV, Hx, Hw, Hsx, Hsw, Hout, H8, HK⟩
  ihave HE := (ends (Xs m) K c) $$ [HSt HK]
  · isplitl [HSt]; · iexact HSt
    iexact HK
  icases HE with ⟨HsV, HrV, ⟨%W', HO⟩, Hown, Hl1, Hl2, Hr1, Hr2, Hc1, Hc2, Hc3, Hr3⟩
  unfold bodyPost Φ₁ scratch Dat.owesAt Pipeline.owesWithin
  rw [show (dats m ρ 0 c).owed t0_0.succ = 0 from rfl]
  isplitl [HbV HsV HrV Hown Hl1 Hl2 Hr1 Hr2 Hc1 Hc2 Hc3 Hr3 H8]
  · isplitl [HbV]; · iexact HbV
    isplitl [HsV]; · iexact HsV
    isplitl [HrV]; · iexact HrV
    isplitl [Hown]; · iexact Hown
    isplitl [Hl1]; · iexact Hl1
    isplitl [Hl2]; · iexact Hl2
    isplitl [Hr1]; · iexact Hr1
    isplitl [Hr2]; · iexact Hr2
    isplitl [Hc1]; · iexact Hc1
    isplitl [Hc2]; · iexact Hc2
    isplitl [Hc3]; · iexact Hc3
    isplitl [Hr3]; · iexact Hr3
    iapply (room_of_hold c w8M) $$ H8
  isplitl [HO]
  · iexists W'
    isplitr; · ipureintro; exact fun _ _ => Or.inl trivial
    iexact HO
  isplitl [Hx]
  · iexists (Xs m c); isplitr; · (ipureintro; rfl)
    iapply (show (hold c xM Finset.univ fullShare (Xs m c) : sProp 𝕄) ⊢ ((c : Thread nD τ).loc cc0_stg0_0 ↦{fullShare} Xs m c) from
        Entails.of_eq (hold_whole c xM setOn_whole fullShare (Xs m c)).symm) $$ Hx
  isplitl [Hw]
  · iexists (Ws m c); isplitr; · (ipureintro; rfl)
    iapply (show (hold c wM Finset.univ fullShare (Ws m c) : sProp 𝕄) ⊢ ((c : Thread nD τ).loc cc0_stg1_0 ↦{fullShare} Ws m c) from
        Entails.of_eq (hold_whole c wM setOn_whole fullShare (Ws m c)).symm) $$ Hw
  isplitl [Hsx]
  · iexists (SXs m c); isplitr; · (ipureintro; rfl)
    iexact Hsx
  isplitl [Hsw]
  · iexists (SWs m c); isplitr; · (ipureintro; rfl)
    iexact Hsw
  iexists (RES m c); isplitr; · (ipureintro; rfl)
  iapply (show (hold c outM Finset.univ fullShare (OUT (Xs m) c (k0_pay8 (smv sxM (SXs m c)) (smv swM (SWs m c))) (Ws m c)) : sProp 𝕄) ⊢ ((c : Thread nD τ).loc cc0_stg4_0 ↦{fullShare} RES m c) from
      Entails.of_eq (hold_whole c outM setOn_whole fullShare (RES m c)).symm) $$ Hout

theorem bigSep_windows (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

set_option maxRecDepth 4000 in
/-- The same in the launch's own words. -/
theorem body_obligation (c : Dev nD) : BodyObligation (dats (F := F) m ρ 0 c) (defs₀ (F := F)) 𝒱₀ () Set.univ := fun t => by
  rw [fin_N0 t]
  rw [bigSep_windows, bigSep_windows]
  simp only [owns_stg]
  refine BIBase.Entails.trans (body_sound m ρ c) ?_
  unfold bodyPost
  have e : (defs₀ (F := F)) Proc.tc 0 (t0_0, cfg0.slots t0_0) = cc0_body xM (Memref.isWhole_whole _) wM (Memref.isWhole_whole _) sxM (Memref.isWhole_whole _) swM (Memref.isWhole_whole _) outM (Memref.isWhole_whole _) own8M (Memref.isWhole_whole _) l1M (Memref.isWhole_whole _) l2M (Memref.isWhole_whole _) r1M (Memref.isWhole_whole _) r2M (Memref.isWhole_whole _) c1M (Memref.isWhole_whole _) c2M (Memref.isWhole_whole _) c3M (Memref.isWhole_whole _) r3M (Memref.isWhole_whole _) w8M (Memref.isWhole_whole _) cc0_scratch10 cc0_scratch11 := rfl
  have e2 : (dats m ρ 0 c).Φ t0_0.succ = Φ₁ c := rfl
  rw [e, e2]

end Cert.RingProof
-- ==== Proof.Launch.lean ====
/-
# The launch

Every device's invariants are allocated at once and the tokens dealt to the devices that pay them; then each device's body
runs from its start, and the run of the whole program follows, for any float values.
-/
module

public import proofs.«01_k».proof.Proof.Data
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores, listed -/

theorem osem_facts : Pipeline.OwnSemFacts cfg0.spec osem := by decide

set_option backward.proofsInPublic true in
def jS (k : Fin 26) : Fin 52 := ⟨k.val, by omega⟩
set_option backward.proofsInPublic true in
def jR (k : Fin 26) : Fin 52 := ⟨k.val + 26, by omega⟩
theorem osem_jS (k : Fin 26) : osem (jS k) = .dma (dS k) := by revert k; decide
theorem osem_jR (k : Fin 26) : osem (jR k) = .dma (dR k) := by revert k; decide

def ownIdx : Fin 26 ⊕ Fin 26 → Fin 52 := Sum.elim jS jR
def cellIdx : Unit ⊕ Fin 26 ⊕ Fin 26 → Fin 53 := Sum.elim (fun _ => 0) (Sum.elim iS iR)

theorem ownIdx_bij : Function.Bijective ownIdx :=
  (Fintype.bijective_iff_injective_and_card _).mpr ⟨by
    rintro (a | a) (b | b) h
    all_goals
      have hv := congrArg Fin.val h
      simp only [ownIdx, Sum.elim_inl, Sum.elim_inr, jS, jR] at hv
      first | (exact congrArg _ (Fin.ext (by omega))) | (exfalso; omega), by decide⟩

theorem cellIdx_bij : Function.Bijective cellIdx :=
  (Fintype.bijective_iff_injective_and_card _).mpr ⟨by
    rintro (a | a | a) (b | b | b) h
    all_goals
      have hv := congrArg Fin.val h
      simp only [cellIdx, Sum.elim_inl, Sum.elim_inr, iS, iR, Fin.val_zero] at hv
      first | (exact congrArg _ (congrArg _ (Fin.ext (by omega)))) | (exfalso; omega) | rfl, by decide⟩

/-- Something for each of the kernel's own semaphores, the send and the receive array apart. -/
theorem bigSep_own (Φ : Fin 52 → sProp 𝕄) :
    bigSep Finset.univ Φ = iprop((bigSep Finset.univ fun k => Φ (jS k)) ∗ bigSep Finset.univ fun k => Φ (jR k)) := by
  rw [bigSep_univ_equiv (Equiv.ofBijective ownIdx ownIdx_bij) Φ, bigSep_univ_sum]; rfl

/-- Something for each semaphore of the protocol. -/
theorem bigSep_cells (Φ : Fin 53 → sProp 𝕄) :
    bigSep Finset.univ Φ = iprop(Φ 0 ∗ (bigSep Finset.univ fun k => Φ (iS k)) ∗ bigSep Finset.univ fun k => Φ (iR k)) := by
  rw [bigSep_univ_equiv (Equiv.ofBijective cellIdx cellIdx_bij) Φ, bigSep_univ_sum, bigSep_univ_sum,
    bigSep_univ_eq_bigSepL [()] (by decide) (by decide)]
  rfl

theorem kcell_injective : Function.Injective (kcell : Dev nD × Fin 53 → GSem nD τ sig) := by
  have hc : ∀ i j, csem i = csem j → i = j := by decide +kernel
  rintro ⟨c, i⟩ ⟨c', i'⟩ h
  have h1 : c = c' := congrArg (fun g : GSem nD τ sig => g.1.1) h
  have h2 : i = i' := hc _ _ (congrArg Prod.snd h)
  rw [h1, h2]

theorem kcell_bar (c : Dev nD) : kcell (c, 0) = barCell c := rfl
theorem kcell_send (c : Dev nD) (k : Fin 26) : kcell (c, iS k) = sendCell c k := by unfold kcell sendCell; rw [csem_send]
theorem kcell_recv (c : Dev nD) (k : Fin 26) : kcell (c, iR k) = recvCell c k := by unfold kcell recvCell; rw [csem_recv]

/-! ## What the launch mints -/

def ringCells : Finset (GSem nD τ sig) := Finset.univ.map ⟨kcell, kcell_injective⟩

/-- A device's own duties: the three of its barrier semaphore, and one of each of its own semaphores. -/
def tokOf (x : Dev nD × (Fin 3 ⊕ Fin 52)) : GSem nD τ sig × ℕ × Fin 3 :=
  match x.2 with
  | .inl e => (barCell x.1, 0, e)
  | .inr i => (((x.1 : Thread nD τ), osem i), 0, 0)

theorem tokOf_injective : Function.Injective tokOf := by
  have ho : ∀ i j, osem i = osem j → i = j := by decide +kernel
  rintro ⟨c, a⟩ ⟨c', b⟩ h
  have h1 : c = c' := by
    have := congrArg (fun x : GSem nD τ sig × ℕ × Fin 3 => x.1.1.1) h
    rcases a with a | a <;> rcases b with b | b <;> exact this
  subst h1
  rcases a with a | a <;> rcases b with b | b
  · have : a = b := congrArg (fun x : GSem nD τ sig × ℕ × Fin 3 => x.2.2) h
    rw [this]
  · exact absurd (congrArg (fun x : GSem nD τ sig × ℕ × Fin 3 => x.1.2) h) fun h' => by cases h'
  · exact absurd (congrArg (fun x : GSem nD τ sig × ℕ × Fin 3 => x.1.2) h) fun h' => by cases h'
  · have : a = b := ho _ _ (congrArg (fun x : GSem nD τ sig × ℕ × Fin 3 => x.1.2) h)
    rw [this]

def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The duty tokens of device `c`'s own semaphores. -/
def toks (c : Dev nD) : sProp 𝕄 :=
  iprop((dutyTok ER (barCell c) 0 0 ∗ dutyTok ER (barCell c) 0 1 ∗ dutyTok ER (barCell c) 0 2)
    ∗ (bigSep Finset.univ fun k => dutyTok ER (sendCell c k) 0 0) ∗ bigSep Finset.univ fun k => dutyTok ER (recvCell c k) 0 0)

/-- What the launch's element deals device `c`. -/
def G (c : Dev nD) : sProp 𝕄 :=
  iprop((bigSep Finset.univ fun k => roundState ER (Rd (Xs m)) (kcell (c, k)) 0)
    ∗ (bigSep Finset.univ fun k => iprop(atPos ER (kcell (c, k)) 0 ∅ 0 ∗ reached ER (kcell (c, k)) 0)) ∗ toks (F := F) c)

theorem toks_eq (c : Dev nD) :
    (bigSep Finset.univ fun a : Fin 3 ⊕ Fin 52 => (dutyTok ER (tokOf (c, a)).1 (tokOf (c, a)).2.1 (tokOf (c, a)).2.2 : sProp 𝕄)) = toks c := by
  rw [bigSep_univ_sum, bigSep_own, bigSep_univ_eq_bigSepL [0, 1, 2] (by decide) (by decide)]
  unfold toks sendCell recvCell
  simp only [← osem_jS, ← osem_jR]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 53 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd (Xs m)) ringCells ringToks) $$ HX with ⟨Hst, Hr, Hat, Htok⟩
  imodintro
  ihave Hst' := (Entails.of_eq (hX fun g => roundState ER (Rd (Xs m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The invariants, allocated on every device at once -/

theorem ownSems_eq (c : Dev nD) :
    (Pipeline.ownSems0 (Ix := Unit) (Name := ℕ) (U := UU) (Lvl := ℕ) (Val := Elt F) (τ := τ) osem c : sProp 𝕄)
      = iprop((bigSep Finset.univ fun k => semVal (sendCell c k) 0) ∗ bigSep Finset.univ fun k => semVal (recvCell c k) 0) := by
  unfold Pipeline.ownSems0
  rw [bigSep_own]
  unfold sendCell recvCell
  simp only [← osem_jS, ← osem_jR]

theorem barSem_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 53 => semVal (kcell (c, k)) 0 : sProp 𝕄) := by
  rw [ownSems_eq, barSem_eq, bigSep_cells]
  simp only [kcell_send, kcell_recv, kcell_bar]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (Xs m)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems_eq (F := F) c) $$ [Hos Hus]
  · isplitl [Hos]; · iexact Hos
    iexact Hus
  imod (show iprop((bigSep Finset.univ fun k : Fin 53 => semVal (kcell (c, k)) 0) ∗ bigSep Finset.univ fun k : Fin 53 => roundState ER (Rd (Xs m)) (kcell (c, k)) 0)
      ⊢ (|={Set.univ}=> bigSep Finset.univ fun k => iprop(∃ κ : ℕ, cellInv ER (Rd (Xs m)) κ (kcell (c, k))) : sProp 𝕄) from by
        rw [← bigSep_sep']
        exact BIBase.Entails.trans (bigSep_mono fun k _ => BIBase.Entails.trans (Rounds.body_intro ER (Rd (Xs m)) (kcell (c, k))) inv_alloc) (bigSep_fupd _ _)) $$ [Hv Hst] with Hinv
  · isplitl [Hv]; · iexact Hv
    iexact Hst
  imodintro
  isplitl [Hinv]; · iexact Hinv
  isplitl [Hat]; · iexact Hat
  iexact Htok

/-- The devices transfer `k` goes to, as a permutation. -/
def tgtE (k : Fin 26) : Dev nD ≃ Dev nD := ⟨fun c => tgt c k, fun c => frm c k, fun c => frm_tgt c k, fun c => tgt_frm c k⟩

/-- The tokens of the duties device `c` pays. -/
def payToks (c : Dev nD) : sProp 𝕄 :=
  iprop((dutyTok ER (barCell (left c)) 0 0 ∗ dutyTok ER (barCell (right c)) 0 1 ∗ dutyTok ER (barCell (partner c)) 0 2)
    ∗ (bigSep Finset.univ fun k => dutyTok ER (sendCell c k) 0 0) ∗ bigSep Finset.univ fun k => dutyTok ER (recvCell (tgt c k) k) 0 0)

theorem recv_toks_around : (bigSep Finset.univ fun c : Dev nD => bigSep Finset.univ fun k => (dutyTok ER (recvCell c k) 0 0 : sProp 𝕄))
    = bigSep Finset.univ fun c : Dev nD => bigSep Finset.univ fun k => (dutyTok ER (recvCell (tgt c k) k) 0 0 : sProp 𝕄) := by
  rw [bigSep_univ_comm, bigSep_univ_comm (fun (c : Dev nD) k => (dutyTok ER (recvCell (tgt c k) k) 0 0 : sProp 𝕄))]
  exact bigSep_congr fun k _ => bigSep_univ_equiv (tgtE k) (fun c : Dev nD => (dutyTok ER (recvCell c k) 0 0 : sProp 𝕄))

/-- Each duty's token goes to the device that pays it. -/
theorem toks_around : (bigSep Finset.univ fun c : Dev nD => (toks c : sProp 𝕄)) ⊢ bigSep Finset.univ fun c : Dev nD => payToks c := by
  unfold toks payToks
  simp only [bigSep_sep']
  rw [recv_toks_around,
    bigSep_univ_equiv rightE.symm (fun c : Dev nD => (dutyTok ER (barCell c) 0 0 : sProp 𝕄)),
    bigSep_univ_equiv rightE (fun c : Dev nD => (dutyTok ER (barCell c) 0 1 : sProp 𝕄)),
    bigSep_univ_equiv partnerE (fun c : Dev nD => (dutyTok ER (barCell c) 0 2 : sProp 𝕄))]
  exact BI.Entails.refl _

theorem linear_of (c : Dev nD) :
    (iprop((bigSep Finset.univ fun k : Fin 53 => atPos ER (kcell (c, k)) 0 ∅ 0) ∗ payToks c) : sProp 𝕄) ⊢ linear c := by
  rw [bigSep_cells]
  simp only [kcell_send, kcell_recv, kcell_bar]
  unfold payToks linear unarmed
  simp only [bigSep_sep']
  iintro ⟨⟨HaB, HaS, HaR⟩, HT, HtS, HtR⟩
  isplitl [HtS HtR HaS]
  · isplitl [HtS]; · iexact HtS
    isplitl [HtR]; · iexact HtR
    iexact HaS
  isplitl [HaR]; · iexact HaR
  isplitl [HT]; · iexact HT
  iexact HaB

theorem ghost_of (K : Dev nD × Fin 53 → ℕ) (c : Dev nD) : (iprop(records (Xs m) K ∗ linear (F := F) c) : sProp 𝕄) ⊢ ghost m c := by
  unfold ghost; iintro H; iexists K; iexact H

theorem regroup :
    (bigSep Finset.univ fun c : Dev nD => iprop((bigSep Finset.univ fun k => iprop(∃ κ : ℕ, cellInv ER (Rd (Xs m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (ghost m) := by
  rw [bigSep_sep', bigSep_sep', ← bigSep_univ_prod (fun ck : Dev nD × Fin 53 => iprop(∃ κ : ℕ, cellInv ER (Rd (Xs m)) κ (kcell ck))),
    bigSep_congr (s := Finset.univ) (fun (c : Dev nD) _ => bigSep_sep' Finset.univ (fun k : Fin 53 => (atPos ER (kcell (c, k)) 0 ∅ 0 : sProp 𝕄)) (fun k => reached ER (kcell (c, k)) 0)),
    bigSep_sep', ← bigSep_univ_prod (fun ck : Dev nD × Fin 53 => (reached ER (kcell ck) 0 : sProp 𝕄))]
  iintro ⟨HI, ⟨Hat, HR⟩, Htok⟩
  ihave HK := (BI.bigSep_exists_pi Finset.univ (fun (ck : Dev nD × Fin 53) (κ : ℕ) => (cellInv ER (Rd (Xs m)) κ (kcell ck) : sProp 𝕄))) $$ HI
  icases HK with ⟨%K, HI⟩
  ihave Htk := (toks_around (F := F)) $$ Htok
  iapply (show (iprop(records (Xs m) K ∗ (bigSep Finset.univ fun c : Dev nD => linear (F := F) c)) : sProp 𝕄) ⊢ bigSep Finset.univ (ghost m) from
    BIBase.Entails.trans (sep_mono_left (BI.bigSep_of_persistent Finset.univ (records (Xs m) K))) (by
      rw [← bigSep_sep']; exact bigSep_mono fun c _ => ghost_of m K c))
  isplitl [HI HR]
  · unfold records
    rw [bigSep_sep']
    isplitl [HI]; · iexact HI
    iexact HR
  · iapply (show (iprop((bigSep Finset.univ fun c : Dev nD => bigSep Finset.univ fun k : Fin 53 => atPos ER (kcell (c, k)) 0 ∅ 0)
        ∗ bigSep Finset.univ fun c : Dev nD => payToks (F := F) c) : sProp 𝕄) ⊢ bigSep Finset.univ fun c : Dev nD => linear (F := F) c from by
      rw [← bigSep_sep']; exact bigSep_mono fun c _ => linear_of c)
    isplitl [Hat]; · iexact Hat
    iexact Htk

theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (ghost m) :=
  BIBase.Entails.trans (BIBase.Entails.trans (bigSep_mono fun c _ => core_alloc m c) (bigSep_fupd _ _)) (BI.fupd_mono (regroup m))

/-! ## What the devices owe one another at the launch -/

theorem bar_inj {a b : Dev nD} : barCell a = barCell b ↔ a = b :=
  ⟨fun h => congrArg (fun g : GSem nD τ sig => g.1.1) h, fun h => h ▸ rfl⟩

theorem recv_inj {a b : Dev nD} {k j : Fin 26} : recvCell a k = recvCell b j ↔ a = b ∧ k = j := by
  refine ⟨fun h => ⟨congrArg (fun g : GSem nD τ sig => g.1.1) h, ?_⟩, fun h => by rw [h.1, h.2]⟩
  have := congrArg (fun g : GSem nD τ sig => role g.2) h
  simp only [role_recv, Role.recv.injEq] at this
  exact this

theorem recv_ne_bar (a b : Dev nD) (k : Fin 26) : recvCell a k ≠ barCell b := fun h => by
  have := congrArg (fun g : GSem nD τ sig => g.2) h
  cases this

theorem tally_bar (a c : Dev nD) : tallyAt (barCell a) () 1 (barCell c) () = if a = c then 1 else 0 := by
  rw [tallyAt_apply]
  by_cases h : a = c
  · rw [if_pos ⟨by rw [h], rfl⟩, if_pos h]
  · rw [if_neg fun h' => h (bar_inj.mp h'.1).symm, if_neg h]

theorem owed_bar (d c : Dev nD) :
    O₀ d (barCell c) () = (if partner d = c then 1 else 0) + (if right d = c then 1 else 0) + (if left d = c then 1 else 0) := by
  unfold O₀ O₁ O₂
  have h0 : owed d 0 (barCell c) () = 0 := by
    by_contra h
    obtain ⟨k, -, hk⟩ := owed_pos (Nat.pos_of_ne_zero h)
    exact recv_ne_bar _ _ _ hk.symm
  simp only [Pi.add_apply, Finsupp.add_apply]
  rw [h0, tally_bar, tally_bar, tally_bar, Nat.zero_add]

theorem owed_recv (d c : Dev nD) (k : Fin 26) : O₀ d (recvCell c k) () = if d = frm c k then Nk k else 0 := by
  unfold O₀ O₁ O₂
  simp only [Pi.add_apply, Finsupp.add_apply]
  rw [tallyAt_ne_cell (recv_ne_bar _ _ _), tallyAt_ne_cell (recv_ne_bar _ _ _), tallyAt_ne_cell (recv_ne_bar _ _ _)]
  simp only [Finsupp.zero_apply, Nat.add_zero]
  unfold owed
  rw [Finset.sum_apply, Finsupp.finset_sum_apply, Finset.sum_eq_single k]
  · rw [if_pos (Nat.zero_le _), tallyAt_apply]
    by_cases h : d = frm c k
    · subst h; rw [if_pos ⟨by rw [tgt_frm], rfl⟩, if_pos rfl]
    · rw [if_neg fun h' => h (by rw [(recv_inj.mp h'.1).1, frm_tgt]), if_neg h]
  · intro j _ hj
    rw [if_pos (Nat.zero_le _), tallyAt_apply, if_neg fun h' => hj (recv_inj.mp h'.1).2.symm]
  · exact fun h => absurd (Finset.mem_univ _) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c : Dev nD) (k : Fin 26) :
    tallyOn (recvCell c k) (launchCredit (Pipeline.owing O₀) 0 (recvCell c k)) = (tallyAt (recvCell c k) () (Nk k) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (frm c k) fun _ => Nk k, if_pos (Finset.mem_univ _)]

theorem dR_injective : Function.Injective fun k : Fin 26 => (SemLoc.dma (dR k) : SemLoc sig) := fun a b h => by
  have := congrArg role h
  simp only [role_recv, Role.recv.injEq] at this
  exact this

theorem creds (c : Dev nD) :
    (Pipeline.launchCred O₀ c : sProp 𝕄)
      ⊢ iprop(cred (tallyAt (barCell c) () 3) ∗ bigSep Finset.univ fun k => cred (tallyAt (recvCell c k) () (Nk k))) := by
  unfold Pipeline.launchCred
  rw [bigSep_univ_at _ (SemLoc.reg barS), launch_bar]
  refine sep_mono_right ?_
  have hs : Finset.univ.map ⟨fun k : Fin 26 => (SemLoc.dma (dR k) : SemLoc sig), dR_injective⟩ ⊆ Finset.univ.erase (SemLoc.reg barS) := fun x hx => by
    obtain ⟨k, -, rfl⟩ := Finset.mem_map.mp hx
    exact Finset.mem_erase.mpr ⟨(fun h => by cases h), Finset.mem_univ _⟩
  refine BIBase.Entails.trans (bigSep_subset hs) ?_
  rw [bigSep_map]
  exact bigSep_mono fun k _ => Entails.of_eq (congrArg cred (launch_recv c k))

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> (iprop(start m c ∗ emp) : sProp 𝕄) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scratch c from scratch_eq c]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scratch c from scratch_eq c, ownSems_eq, barSem_eq]
  unfold Φ₁
  iintro ⟨HB, HS, HR, H⟩
  isplitl [HB]; · iexact HB
  isplitl [HS HR]
  · isplitl [HS]; · iexact HS
    iexact HR
  iexact H

/-- Whatever is owed at the launch lies above level 0. -/
theorem owed_level {c : Dev nD} {g : GSem nD τ sig} {u : Unit} (h : 0 < O₀ c g u) : g.1.2 = .tc ∧ 0 < lv g u := by
  have h' : 0 < owed c 0 g u ∨ g = barCell (partner c) ∨ g = barCell (right c) ∨ g = barCell (left c) := by
    by_contra hn
    simp only [not_or] at hn
    unfold O₀ O₁ O₂ at h
    simp only [Pi.add_apply, Finsupp.add_apply] at h
    rw [tallyAt_apply, tallyAt_apply, tallyAt_apply, if_neg fun h' => hn.2.1 h'.1, if_neg fun h' => hn.2.2.1 h'.1, if_neg fun h' => hn.2.2.2 h'.1] at h
    simp only [Nat.add_zero] at h
    exact hn.1 h
  rcases h' with h' | rfl | rfl | rfl
  · obtain ⟨k, -, rfl⟩ := owed_pos h'
    refine ⟨rfl, ?_⟩
    unfold lv; rw [role_recv]; dsimp only; unfold lvR; split
    · decide
    · split <;> decide
  all_goals
    refine ⟨rfl, ?_⟩
    unfold lv; rw [role_bar]; decide

theorem stage_waits (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by unfold L; rw [if_pos (owed_level hg).1]; exact Finset.mem_singleton_self _)
      (fun p hp => by rw [Finset.mem_singleton.mp hp]; unfold lv; rw [hq])
      (fun g u hg => (owed_level hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    stage_waits c _ (by fin_cases w <;> fin_cases s <;> decide) _ (by
      rcases t with ⟨_ | _, ht⟩
      · exact Or.inl rfl
      · exact Or.inr rfl)

/-! ## The run -/

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, and for any float values, the program on the eight devices ends however
    the devices interleave; at the end each window's array is at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The arguments' arrays end as they began. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

end Cert.RingProof
-- ==== Proof.Frames.lean ====
/-
# The frames

The run of the program at words and at ideal values, its arguments and semaphores read off.
-/
module

public import proofs.«01_k».proof.Defs
public import proofs.«01_k».proof.Proof.Gen.Kernel
public import proofs.«01_k».proof.Proof.Launch

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The two printings have the same kernel bodies. -/
theorem bodies_same : (Cert.Kernel.defs₀ (F := F)) = (Cert.KernelIdeal.defs₀ (F := F)) := by
  unfold Cert.Kernel.defs₀ Cert.KernelIdeal.defs₀
  refine congrArg Defs.onTc ?_
  funext l a
  match l, a with
  | ⟨0, _⟩, (t, s) => rfl

theorem defs_same : (Cert.Kernel.defs (F := F)) = (Cert.KernelIdeal.defs (F := F)) :=
  congrArg (Pipeline.defs Cert.KernelIdeal.pcfgs) bodies_same

/-- The run, for any float values: every device's arguments end as they began, and every semaphore at zero. -/
theorem frame_run (m : (ℓ : Loc nD τ sig) → Buf (Elt F) ℓ) (ρ : Dev nD → PrngReg) :
    θ_run (defs (F := F)) (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono
    (fun _ h => ⟨fun c => ⟨(h.1 c (0 : Fin 5)).trans (finalA_in m ρ c (0 : Fin 5) rfl), (h.1 c (1 : Fin 5)).trans (finalA_in m ρ c (1 : Fin 5) rfl),
      (h.1 c (2 : Fin 5)).trans (finalA_in m ρ c (2 : Fin 5) rfl), (h.1 c (3 : Fin 5)).trans (finalA_in m ρ c (3 : Fin 5) rfl)⟩, h.2⟩)
    (run_main m ρ)

/-- The frame at words. -/
theorem frame_kernel : Cert.quiescent_Kernel := fun m ρ _ => by
  rw [show Cert.Kernel.defs (F := Bits) = Cert.KernelIdeal.defs (F := Bits) from defs_same]
  exact frame_run (F := Bits) m ρ

/-- The frame at ideal values. -/
theorem frame_ideal : Cert.quiescent_KernelIdeal := fun m ρ _ => frame_run (F := Ideal) m ρ

end Cert.RingProof
-- ==== Proof.Arith.lean ====
/-
# One element of the product

At the ideal values one element of a scaled product cut off below at zero, whatever the number of rows computed together.
-/
module

public import Idealize.ShloMosaic.Lib.MatmulPlain

@[expose] public section

noncomputable section

namespace Cert.RingProof

open Idealize.ShloMosaic
open Idealize.ShloMosaic.ValueIdx
open scoped BigOperators

/-- Element `(i, j)`: the inner product of row `i` and column `j`, times the scale, at least zero. -/
def element {M K N : ℕ} (X : FVec Ideal ⟨2, ![M, K]⟩ .fp8e4m3) (W : FVec Ideal ⟨2, ![K, N]⟩ .fp8e4m3) (s : Ideal .f32) (i : Fin M) (j : Fin N) : EReal :=
  max ((∑ k : Fin K, (X (ix2 i k) : EReal) * (W (ix2 k j) : EReal)) * (s : EReal)) 0

/-- The product, the scale and the cut, read at an index, are the element. -/
theorem product_at {M K N : ℕ} (X : FVec Ideal ⟨2, ![M, K]⟩ .fp8e4m3) (W : FVec Ideal ⟨2, ![K, N]⟩ .fp8e4m3) (s : Ideal .f32) (i : Fin M) (j : Fin N) :
    maximumf (mulf (matmul (DotDims.plain M K N) none X W (constant ⟨2, ![M, N]⟩ .f32 0x00000000#32)) (broadcast ⟨2, ![M, N]⟩ s))
      (broadcast ⟨2, ![M, N]⟩ (Scalar.ofBits (F := Ideal) .f32 0x00000000#32)) (ix2 i j) = element X W s i j := by
  show max (FloatOps.matmul (DotDims.plain M K N) none X W (constant ⟨2, ![M, N]⟩ .f32 0x00000000#32) (ix2 i j) * s) (Ideal.ofBits .f32 0x00000000#32) = _
  rw [Ideal.matmul_plain_apply, Ideal.ofBits_zero_f32]
  show max ((Ideal.ofBits .f32 0x00000000#32 + _) * s) 0 = _
  rw [Ideal.ofBits_zero_f32, zero_add]
  rfl

/-- Elements agree when the row, the column and the scale do. -/
theorem element_congr {M M' K N N' : ℕ} {X : FVec Ideal ⟨2, ![M, K]⟩ .fp8e4m3} {X' : FVec Ideal ⟨2, ![M', K]⟩ .fp8e4m3}
    {W : FVec Ideal ⟨2, ![K, N]⟩ .fp8e4m3} {W' : FVec Ideal ⟨2, ![K, N']⟩ .fp8e4m3} {s s' : Ideal .f32} {i : Fin M} {i' : Fin M'} {j : Fin N} {j' : Fin N'}
    (hX : ∀ k, X (ix2 i k) = X' (ix2 i' k)) (hW : ∀ k, W (ix2 k j) = W' (ix2 k j')) (hs : s = s') :
    element X W s i j = element X' W' s' i' j' := by
  unfold element
  rw [hs]
  simp only [hX, hW]

end Cert.RingProof
-- ==== Proof.RefValue.lean ====
/-
# The reference's result

The reference's array after its run, element by element, at the ideal values.
-/
module

public import proofs.«01_k».proof.Proof.Arith
public import proofs.«01_k».proof.Proof.Gen.ReferenceIdeal.Value
public import Idealize.ShloMosaic.Lib.Pipeline.Value
public import Idealize.ShloMosaic.Lib.Pipeline.ValueKit
public import Idealize.ShloMosaic.Lib.Tactic

@[expose] public section

noncomputable section

namespace Cert.RingProof.Ref

open Cert.ReferenceIdeal Cert.ReferenceIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero2 : (![0, 0] : Fin 2 → ℕ) = fun _ => 0 := funext fun a => by fin_cases a <;> rfl
theorem zero1 : (![0] : Fin 1 → ℕ) = fun _ => 0 := funext fun a => by fin_cases a; rfl

/-- An index of a one-element array is the only one. -/
theorem one_idx (a b : S1.Idx) : a = b := by
  funext d
  match d with
  | ⟨0, h⟩ =>
    have ha : (a ⟨0, h⟩).val < 1 := (a ⟨0, h⟩).isLt
    have hb : (b ⟨0, h⟩).val < 1 := (b ⟨0, h⟩).isLt
    exact Fin.ext (by omega)

/-- What the body leaves: its one store's value, over the whole operands. -/
theorem out_whole {F : FTy → Type} [FloatOps F] (c : Dev nD) (a0 : Memref sig .tc .vmem S4096x4096 .fp8e4m3) (h0 : a0.IsWhole)
    (a1 : Memref sig .tc .vmem S4096x8192 .fp8e4m3) (h1 : a1.IsWhole) (a2 : Memref sig .tc .smem S1 .f32) (h2 : a2.IsWhole)
    (a3 : Memref sig .tc .smem S1 .f32) (h3 : a3.IsWhole) (a4 : Memref sig .tc .vmem S4096x8192 .f32) (h4 : a4.IsWhole)
    (x : Vec F S4096x4096 .fp8e4m3) (w : Vec F S4096x8192 .fp8e4m3) (sx sw : Vec F S1 .f32) :
    out0_A_4 c a0 h0 a1 h1 a2 h2 a3 h3 a4 h4 x w sx sw = k0_pay1 x w (sx (ValueIdx.ix1 (0 : Fin 1))) (sw (ValueIdx.ix1 (0 : Fin 1))) := by
  unfold out0_A_4
  rw [View.read_writes_eq_canon _ _ _ (cover0_A_4 c a0 h0 a1 h1 a2 h2 a3 h3 a4 h4 x w sx sw)]
  unfold kernelRun0_A
  dsimp only
  sl_unfold_words
  rw [View.canon_unit_zero (S := S4096x8192) zero2]
  simp only [View.readAt_eq_ld, h0.read_unread, h1.read_unread, h2.read_unread, h3.read_unread, View.ld_unit_zero (S := S4096x4096) zero2,
    View.ld_unit_zero (S := S4096x8192) zero2, View.ld_unit_zero (S := S1) zero1]
  exact congrArg₂ (k0_pay1 x w) (congrArg sx (one_idx _ _)) (congrArg sw (one_idx _ _))

/-- The result, as contents of the reference's array. -/
def result (c : Dev nD) : Buf (Elt Ideal) ((c : Thread nD τ).loc main_v0) := fun i =>
  element (M := 4096) (K := 4096) (N := 8192) (m ((c : Thread nD τ).loc main_arg0)) (m ((c : Thread nD τ).loc main_arg1))
    (FloatOps.mulf (F := Ideal) (φ := .f32) (m ((c : Thread nD τ).loc main_arg2) (ValueIdx.ix1 (0 : Fin 1))) (m ((c : Thread nD τ).loc main_arg3) (ValueIdx.ix1 (0 : Fin 1)))) (i 0) (i 1)

/-- The blocks of the inputs are the arrays. -/
theorem whole0 (c : Dev nD) : iblk m c 0 t0_0 = m ((c : Thread nD τ).loc main_arg0) := by
  have hz : (fun a => win0_0.index t0_0 a * main_arg0.ty.shape.size a) = fun _ => 0 := funext fun a => by fin_cases a <;> decide
  exact Memref.read_access_unit_zero (Elt Ideal) main_arg0 hz (fun a => by rw [congrFun hz a]; simp) (m ((c : Thread nD τ).loc main_arg0))
theorem whole1 (c : Dev nD) : iblk m c 1 t0_0 = m ((c : Thread nD τ).loc main_arg1) := by
  have hz : (fun a => win0_1.index t0_0 a * main_arg1.ty.shape.size a) = fun _ => 0 := funext fun a => by fin_cases a <;> decide
  exact Memref.read_access_unit_zero (Elt Ideal) main_arg1 hz (fun a => by rw [congrFun hz a]; simp) (m ((c : Thread nD τ).loc main_arg1))
theorem whole2 (c : Dev nD) : iblk m c 2 t0_0 = m ((c : Thread nD τ).loc main_arg2) := by
  have hz : (fun a => win0_2.index t0_0 a * main_arg2.ty.shape.size a) = fun _ => 0 := funext fun a => by fin_cases a; decide
  exact Memref.read_access_unit_zero (Elt Ideal) main_arg2 hz (fun a => by rw [congrFun hz a]; simp) (m ((c : Thread nD τ).loc main_arg2))
theorem whole3 (c : Dev nD) : iblk m c 3 t0_0 = m ((c : Thread nD τ).loc main_arg3) := by
  have hz : (fun a => win0_3.index t0_0 a * main_arg3.ty.shape.size a) = fun _ => 0 := funext fun a => by fin_cases a; decide
  exact Memref.read_access_unit_zero (Elt Ideal) main_arg3 hz (fun a => by rw [congrFun hz a]; simp) (m ((c : Thread nD τ).loc main_arg3))

/-- The value the body stores, at an index. -/
theorem stored (x : Vec Ideal S4096x4096 .fp8e4m3) (w : Vec Ideal S4096x8192 .fp8e4m3) (sx sw : Elt Ideal .f32) (j : S4096x8192.Idx) :
    k0_pay1 x w sx sw j = element (M := 4096) (K := 4096) (N := 8192) x w (FloatOps.mulf (F := Ideal) (φ := .f32) sx sw) (j 0) (j 1) := by
  have e : j = ValueIdx.ix2 (n0 := 4096) (n1 := 8192) (j 0) (j 1) := by funext a; match a with | ⟨0, _⟩ => rfl | ⟨1, _⟩ => rfl
  rw [e]
  exact product_at (M := 4096) (K := 4096) (N := 8192) x w (FloatOps.mulf (F := Ideal) (φ := .f32) sx sw) (j 0) (j 1)

/-- The reference's array ends holding the result. -/
theorem final (c : Dev nD) : (dats m 0 c).arrAt 4 cfg0.N = result m c := by
  refine (dats m 0 c).arrAt_eq_of_after_last 4 t0_0 (by decide +kernel) (result m c) fun j => ?_
  have e : (dats m 0 c).after 4 t0_0 = k0_pay1 (m ((c : Thread nD τ).loc main_arg0)) (m ((c : Thread nD τ).loc main_arg1))
      (m ((c : Thread nD τ).loc main_arg2) (ValueIdx.ix1 (0 : Fin 1))) (m ((c : Thread nD τ).loc main_arg3) (ValueIdx.ix1 (0 : Fin 1))) := by
    rw [after0_4]
    unfold outsAt0
    rw [out_whole, whole0, whole1, whole2, whole3]
  exact (congrFun e j).trans (stored _ _ _ _ j)

end Cert.RingProof.Ref
-- ==== Proof.KernelValue.lean ====
/-
# The kernel's result

A device's array after the run, element by element, at the ideal values.
-/
module

public import proofs.«01_k».proof.Proof.Arith
public import proofs.«01_k».proof.Proof.Launch
public import Idealize.ShloMosaic.Lib.Pipeline.Value
public import Idealize.ShloMosaic.Lib.Pipeline.ValueKit

@[expose] public section

noncomputable section

namespace Cert.RingProof

open Cert.KernelIdeal Cert.KernelIdeal.Gen
open Idealize.ShloMosaic Idealize.ShloMosaic.TcCoe Idealize.SL.Sem
open Idealize.ShloMosaic.Pipeline (Dat)

section Whole

variable {F : FTy → Type} [FloatOps F]
variable (m : (ℓ : Loc nD τ sig) → Buf (Elt F) ℓ) (ρ : Dev nD → PrngReg)

/-- The fetched blocks are the argument arrays. -/
theorem Xs_whole (c : Dev nD) : Xs m c = m ((c : Thread nD τ).loc main_arg0) := by
  have hz : (fun a => win0_0.index t0_0 a * main_arg0.ty.shape.size a) = fun _ => 0 := funext fun a => by fin_cases a <;> decide
  exact Memref.read_access_unit_zero (Elt F) main_arg0 hz (fun a => by rw [congrFun hz a]; simp) (m ((c : Thread nD τ).loc main_arg0))
theorem Ws_whole (c : Dev nD) : Ws m c = m ((c : Thread nD τ).loc main_arg1) := by
  have hz : (fun a => win0_1.index t0_0 a * main_arg1.ty.shape.size a) = fun _ => 0 := funext fun a => by fin_cases a <;> decide
  exact Memref.read_access_unit_zero (Elt F) main_arg1 hz (fun a => by rw [congrFun hz a]; simp) (m ((c : Thread nD τ).loc main_arg1))
theorem SXs_whole (c : Dev nD) : SXs m c = m ((c : Thread nD τ).loc main_arg2) := by
  have hz : (fun a => win0_2.index t0_0 a * main_arg2.ty.shape.size a) = fun _ => 0 := funext fun a => by fin_cases a; decide
  exact Memref.read_access_unit_zero (Elt F) main_arg2 hz (fun a => by rw [congrFun hz a]; simp) (m ((c : Thread nD τ).loc main_arg2))
theorem SWs_whole (c : Dev nD) : SWs m c = m ((c : Thread nD τ).loc main_arg3) := by
  have hz : (fun a => win0_3.index t0_0 a * main_arg3.ty.shape.size a) = fun _ => 0 := funext fun a => by fin_cases a; decide
  exact Memref.read_access_unit_zero (Elt F) main_arg3 hz (fun a => by rw [congrFun hz a]; simp) (m ((c : Thread nD τ).loc main_arg3))

/-- The result array ends holding what the device computes. -/
theorem final_out (c : Dev nD) : finalA m ρ c 4 = RES m c :=
  (dats m ρ 0 c).arrAt_eq_of_after_last 4 t0_0 (by decide +kernel) (RES m c) fun j => rfl

end Whole

variable (m : (ℓ : Loc nD τ sig) → Buf (Elt Ideal) ℓ) (ρ : Dev nD → PrngReg)

/-- A row of a block's product, and of half a block's, at the ideal values. -/
theorem gemm_at (s : Ideal .f32) (Y : S512x4096.Idx → Elt Ideal .fp8e4m3) (w : S4096x1024.Idx → Elt Ideal .fp8e4m3) (r : Fin 512) (j : Fin 1024) :
    gemm s Y w (ValueIdx.ix2 r j) = element (M := 512) (K := 4096) (N := 1024) Y w s r j :=
  product_at (M := 512) (K := 4096) (N := 1024) Y w s r j
theorem gemmH_at (s : Ideal .f32) (Y : S256x4096.Idx → Elt Ideal .fp8e4m3) (w : S4096x1024.Idx → Elt Ideal .fp8e4m3) (r : Fin 256) (j : Fin 1024) :
    gemmH s Y w (ValueIdx.ix2 r j) = element (M := 256) (K := 4096) (N := 1024) Y w s r j :=
  product_at (M := 256) (K := 4096) (N := 1024) Y w s r j

/-- Row `r` of half `h` is row `256 h + r` of the block. -/
theorem halfOf_at {V : Type} (Y : S512x4096.Idx → V) (h : Fin 2) (r : Fin 256) (k : Fin 4096) (r' : Fin 512) (hr : r'.val = 256 * h.val + r.val) :
    halfOf h Y (ValueIdx.ix2 r k) = Y (ValueIdx.ix2 r' k) := by
  unfold halfOf
  congr 1
  funext a
  apply Fin.ext
  match a with
  | ⟨0, _⟩ => show 256 * h.val + 1 * r.val = r'.val; omega
  | ⟨1, _⟩ => show 0 + 1 * k.val = k.val; omega

/-- Every element of what a device computes is the element of its row's block and its own columns. -/
theorem OUT_at (X : Dev nD → S512x4096.Idx → Elt Ideal .fp8e4m3) (c : Dev nD) (s : Ideal .f32) (W : S4096x1024.Idx → Elt Ideal .fp8e4m3)
    (o : Dev nD) (r : Fin 512) (i : S4096x1024.Idx) (hi : (i 0).val = 512 * o.val + r.val) :
    OUT X c s W i = element (M := 512) (K := 4096) (N := 1024) (X o) W s r (i 1) := by
  unfold OUT
  have h1 : (i 0).val / 512 = o.val := by omega
  have h2 : (i 0).val % 512 = r.val := by omega
  split
  · rename_i hl
    have ho : last c = o := Fin.ext (by omega)
    refine (gemmH_at _ _ _ _ _).trans ?_
    rw [ho]
    exact element_congr (fun k => halfOf_at (X o) _ _ k r (by show r.val = 256 * ((i 0).val % 512 / 256) + (i 0).val % 256; omega)) (fun _ => rfl) rfl
  · refine (gemm_at _ _ _ _ _).trans ?_
    refine element_congr (fun k => ?_) (fun _ => rfl) rfl
    have e1 : ∀ h, (⟨(i 0).val / 512, h⟩ : Dev nD) = o := fun h => Fin.ext h1
    have e2 : ∀ h, (⟨(i 0).val % 512, h⟩ : Fin 512) = r := fun h => Fin.ext h2
    rw [e1, e2]

/-- What a device computes, over the arguments. -/
theorem RES_at (c o : Dev nD) (r : Fin 512) (i : S4096x1024.Idx) (hi : (i 0).val = 512 * o.val + r.val) :
    RES m c i = element (M := 512) (K := 4096) (N := 1024) (m ((o : Thread nD τ).loc main_arg0)) (m ((c : Thread nD τ).loc main_arg1))
      (FloatOps.mulf (F := Ideal) (φ := .f32) (m ((c : Thread nD τ).loc main_arg2) (ValueIdx.ix1 (0 : Fin 1))) (m ((c : Thread nD τ).loc main_arg3) (ValueIdx.ix1 (0 : Fin 1)))) r (i 1) := by
  unfold RES
  rw [OUT_at (Xs m) c _ _ o r i hi, Xs_whole, Ws_whole, SXs_whole, SWs_whole]
  rfl

end Cert.RingProof
-- ==== Proof.Equation.lean ====
/-
# The equation

Each device's array ends holding its columns of the reference's result.
-/
module

public import proofs.«01_k».proof.Defs
public import proofs.«01_k».proof.Proof.Gen.Kernel
public import proofs.«01_k».proof.Proof.RefValue
public import proofs.«01_k».proof.Proof.KernelValue

@[expose] public section

noncomputable section

namespace Cert.RingProof

open Cert.KernelIdeal Cert.KernelIdeal.Gen
open Idealize.ShloMosaic Idealize.ShloMosaic.TcCoe Idealize.SL.Sem

/-- The whole arrays of the reference, for one device's part of each. -/
abbrev rloc (b : Ref Cert.ReferenceIdeal.sig .tc) : Loc Cert.ReferenceIdeal.nD Cert.ReferenceIdeal.τ Cert.ReferenceIdeal.sig :=
  (((0 : Dev Cert.ReferenceIdeal.nD).tc : Thread Cert.ReferenceIdeal.nD Cert.ReferenceIdeal.τ)).loc b

/-- Row `r` of row block `o` is row `512 o + r` of the array; column `j` of column block `c` is column `1024 c + j`. -/
theorem row_block {V : Type} (v : (⟨2, ![4096, 4096]⟩ : Shape).Idx → V) (o : Fin 8) (r : Fin 512) (k : Fin 4096) (i : Fin 4096) (hi : i.val = 512 * o.val + r.val) :
    Layout.block ⟨2, ![512, 4096]⟩ ⟨2, ![4096, 4096]⟩ 0 8 o v (by decide) (ValueIdx.ix2 r k) = v (ValueIdx.ix2 i k) := by
  rw [Layout.block_apply]
  congr 1
  funext a
  apply Fin.ext
  match a with
  | ⟨0, _⟩ => show o.val * 512 + r.val = i.val; omega
  | ⟨1, _⟩ => rfl

theorem col_block {V : Type} (v : (⟨2, ![4096, 8192]⟩ : Shape).Idx → V) (c : Fin 8) (k : Fin 4096) (j : Fin 1024) (j' : Fin 8192) (hj : j'.val = 1024 * c.val + j.val) :
    Layout.block ⟨2, ![4096, 1024]⟩ ⟨2, ![4096, 8192]⟩ 1 8 c v (by decide) (ValueIdx.ix2 k j) = v (ValueIdx.ix2 k j') := by
  rw [Layout.block_apply]
  congr 1
  funext a
  apply Fin.ext
  match a with
  | ⟨0, _⟩ => rfl
  | ⟨1, _⟩ => show c.val * 1024 + j.val = j'.val; omega

section Parts

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- What a device computes is its block of columns of the reference's result. -/
theorem RES_block
    (h0 : ∀ c : Dev nD, m ((c : Thread nD τ).loc main_arg0) = Layout.block ⟨2, ![512, 4096]⟩ ⟨2, ![4096, 4096]⟩ 0 8 c (m' (rloc Cert.ReferenceIdeal.main_arg0)))
    (h1 : ∀ c : Dev nD, m ((c : Thread nD τ).loc main_arg1) = Layout.block ⟨2, ![4096, 1024]⟩ ⟨2, ![4096, 8192]⟩ 1 8 c (m' (rloc Cert.ReferenceIdeal.main_arg1)))
    (h2 : ∀ c : Dev nD, m ((c : Thread nD τ).loc main_arg2) = m' (rloc Cert.ReferenceIdeal.main_arg2))
    (h3 : ∀ c : Dev nD, m ((c : Thread nD τ).loc main_arg3) = m' (rloc Cert.ReferenceIdeal.main_arg3)) (c : Dev nD) :
    RES m c = Layout.block ⟨2, ![4096, 1024]⟩ ⟨2, ![4096, 8192]⟩ 1 8 c (Ref.result m' 0) := by
  funext i
  have hi0 : (i 0).val < 4096 := (i 0).isLt
  have hi1 : (i 1).val < 1024 := (i 1).isLt
  have hc : c.val < 8 := c.isLt
  have ho : (i 0).val / 512 < 8 := by omega
  have hr : (i 0).val % 512 < 512 := by omega
  refine (RES_at m c ⟨(i 0).val / 512, ho⟩ ⟨(i 0).val % 512, hr⟩ i (by show (i 0).val = 512 * ((i 0).val / 512) + (i 0).val % 512; omega)).trans ?_
  rw [Layout.block_apply]
  show _ = element (M := 4096) (K := 4096) (N := 8192) _ _ _ _ _
  refine element_congr (fun k => ?_) (fun k => ?_) ?_
  · rw [h0]
    refine row_block _ _ _ k _ ?_
    show (i 0).val = 512 * ((i 0).val / 512) + (i 0).val % 512; omega
  · rw [h1]
    refine col_block _ c k _ _ ?_
    show c.val * 1024 + (i 1).val = 1024 * c.val + (i 1).val; omega
  · rw [h2, h3]

end Parts

/-- The kernel computes the reference's result, each device its columns. -/
theorem equation : Cert.algebraic_KernelIdeal_ReferenceIdeal := by
  intro m g m' g' _ hm
  refine ⟨Ref.result m' 0, ?_, ?_⟩
  · refine (θ_run defs _ _).mono (fun r h c => ⟨?_, ?_, ?_, ?_, ?_⟩) (run_main m g)
    · exact ((h.1 c (4 : Fin 5)).trans (final_out m g c)).trans
        (RES_block m m' (fun c => (hm c).1) (fun c => (hm c).2.1) (fun c => (hm c).2.2.1) (fun c => (hm c).2.2.2) c)
    · exact (h.1 c (0 : Fin 5)).trans (finalA_in m g c (0 : Fin 5) rfl)
    · exact (h.1 c (1 : Fin 5)).trans (finalA_in m g c (1 : Fin 5) rfl)
    · exact (h.1 c (2 : Fin 5)).trans (finalA_in m g c (2 : Fin 5) rfl)
    · exact (h.1 c (3 : Fin 5)).trans (finalA_in m g c (3 : Fin 5) rfl)
  · refine (θ_run Cert.ReferenceIdeal.defs _ _).mono (fun r h => ⟨?_, (h 0).2⟩) (Cert.ReferenceIdeal.Value.run_blocks m' g')
    exact (h 0).1.trans (Ref.final m' 0)

end Cert.RingProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨Cert.RingProof.frame_kernel, Cert.RingProof.frame_ideal, fun m ρ _ => Cert.ReferenceIdeal.Gen.frame m ρ, trivial, Cert.RingProof.equation⟩⟩

end Cert.Proof

end
